-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S4x512x640 : Shape := ⟨3, ![4, 512, 640]⟩
abbrev S4x512x768 : Shape := ⟨3, ![4, 512, 768]⟩
abbrev S3x512x640 : Shape := ⟨3, ![3, 512, 640]⟩
abbrev S3x512x768 : Shape := ⟨3, ![3, 512, 768]⟩
abbrev S3x7 : Shape := ⟨2, ![3, 7]⟩
abbrev S_ : Shape := ⟨0, ![]⟩
abbrev S512x512 : Shape := ⟨2, ![512, 512]⟩
abbrev S512x640 : Shape := ⟨2, ![512, 640]⟩
abbrev S1x512x640 : Shape := ⟨3, ![1, 512, 640]⟩
abbrev S1x1 : Shape := ⟨2, ![1, 1]⟩
abbrev S512x768 : Shape := ⟨2, ![512, 768]⟩
abbrev S1x512x768 : Shape := ⟨3, ![1, 512, 768]⟩

abbrev nBuf : Space → Nat
  | .hbm => 5
  | .vmem => 17
  | .smem => 2
  | _ => 0

abbrev bufTy : (tb : Table) → Fin (tcTables nBuf tb) → BufTy
  | .hbm, ⟨0, _⟩ => ⟨S4096x512, .i8⟩
  | .hbm, ⟨1, _⟩ => ⟨S512x2048, .i8⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .i8⟩
  | .local _ .vmem, ⟨1, _⟩ => ⟨S512x2048, .i8⟩
  | .local _ .vmem, ⟨2, _⟩ => ⟨S512x2048, .f32⟩
  | .local _ .vmem, ⟨3, _⟩ => ⟨S4x512x640, .fp8e4m3⟩
  | .local _ .vmem, ⟨4, _⟩ => ⟨S4x512x640, .fp8e4m3⟩
  | .local _ .vmem, ⟨5, _⟩ => ⟨S4x512x768, .fp8e4m3⟩
  | .local _ .vmem, ⟨6, _⟩ => ⟨S4x512x640, .fp8e4m3⟩
  | .local _ .vmem, ⟨7, _⟩ => ⟨S4x512x640, .fp8e4m3⟩
  | .local _ .vmem, ⟨8, _⟩ => ⟨S4x512x768, .fp8e4m3⟩
  | .local _ .vmem, ⟨9, _⟩ => ⟨S3x512x640, .bf16⟩
  | .local _ .vmem, ⟨10, _⟩ => ⟨S3x512x640, .bf16⟩
  | .local _ .vmem, ⟨11, _⟩ => ⟨S3x512x768, .bf16⟩
  | .local _ .vmem, ⟨12, _⟩ => ⟨S3x512x640, .bf16⟩
  | .local _ .vmem, ⟨13, _⟩ => ⟨S3x512x640, .bf16⟩
  | .local _ .vmem, ⟨14, _⟩ => ⟨S3x512x768, .bf16⟩
  | .local _ .vmem, ⟨15, _⟩ => ⟨S512x2048, .f32⟩
  | .local _ .vmem, ⟨16, _⟩ => ⟨S512x2048, .f32⟩
  | .local _ .smem, ⟨0, _⟩ => ⟨S1, .f32⟩
  | .local _ .smem, ⟨1, _⟩ => ⟨S1, .f32⟩
  | _, _ => ⟨S4096x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 2 → Bool
  | ⟨0, _⟩ => false
  | ⟨1, _⟩ => true
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 2 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_2 : BitVec 32 := 1#32
  let v10 : BitVec 32 := Scalar.xori v8 c1_i32_2
  let c4_i32_3 : BitVec 32 := 4#32
  let v11 : BitVec 32 := Scalar.andi v10 c4_i32_3
  let c3_i32_4 : BitVec 32 := 3#32
  let v12 : BitVec 32 := Scalar.andi v10 c3_i32_4
  let c3_i32_5 : BitVec 32 := 3#32
  let v13 : BitVec 32 := Scalar.andi v10 c3_i32_5
  let c1_i32_6 : BitVec 32 := 1#32
  let v14 : BitVec 32 := Scalar.shrsi v13 c1_i32_6
  let v15 : BitVec 32 := Scalar.xori v12 v14
  let v16 : BitVec 32 := Scalar.ori v11 v15
  let c1_i32_8 : BitVec 32 := 1#32
  let v17 : BitVec 32 := Scalar.muli v16 c1_i32_8
  let v18 : BitVec 32 := Scalar.addi c0_i32 v17
  v18.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32 : BitVec 32 := 2#32
  let v19 : BitVec 32 := Scalar.xori v8 c2_i32
  let c4_i32_9 : BitVec 32 := 4#32
  let v20 : BitVec 32 := Scalar.andi v19 c4_i32_9
  let c3_i32_10 : BitVec 32 := 3#32
  let v21 : BitVec 32 := Scalar.andi v19 c3_i32_10
  let c3_i32_11 : BitVec 32 := 3#32
  let v22 : BitVec 32 := Scalar.andi v19 c3_i32_11
  let c1_i32_12 : BitVec 32 := 1#32
  let v23 : BitVec 32 := Scalar.shrsi v22 c1_i32_12
  let v24 : BitVec 32 := Scalar.xori v21 v23
  let v25 : BitVec 32 := Scalar.ori v20 v24
  let c1_i32_14 : BitVec 32 := 1#32
  let v26 : BitVec 32 := Scalar.muli v25 c1_i32_14
  let v27 : BitVec 32 := Scalar.addi c0_i32_15 v26
  v27.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_16 : BitVec 32 := 4#32
  let v28 : BitVec 32 := Scalar.xori v8 c4_i32_16
  let c4_i32_17 : BitVec 32 := 4#32
  let v29 : BitVec 32 := Scalar.andi v28 c4_i32_17
  let c3_i32_18 : BitVec 32 := 3#32
  let v30 : BitVec 32 := Scalar.andi v28 c3_i32_18
  let c3_i32_19 : BitVec 32 := 3#32
  let v31 : BitVec 32 := Scalar.andi v28 c3_i32_19
  let c1_i32_20 : BitVec 32 := 1#32
  let v32 : BitVec 32 := Scalar.shrsi v31 c1_i32_20
  let v33 : BitVec 32 := Scalar.xori v30 v32
  let v34 : BitVec 32 := Scalar.ori v29 v33
  let c1_i32_22 : BitVec 32 := 1#32
  let v35 : BitVec 32 := Scalar.muli v34 c1_i32_22
  let v36 : BitVec 32 := Scalar.addi c0_i32_23 v35
  v36.toNat
def k0_off1 (d0 : Dev nD) (c7_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let v37 : BitVec 32 := Scalar.xori v8 c7_i32
  let c4_i32_24 : BitVec 32 := 4#32
  let v38 : BitVec 32 := Scalar.andi v37 c4_i32_24
  let c3_i32_25 : BitVec 32 := 3#32
  let v39 : BitVec 32 := Scalar.andi v37 c3_i32_25
  let c3_i32_26 : BitVec 32 := 3#32
  let v40 : BitVec 32 := Scalar.andi v37 c3_i32_26
  let c1_i32_27 : BitVec 32 := 1#32
  let v41 : BitVec 32 := Scalar.shrsi v40 c1_i32_27
  let v42 : BitVec 32 := Scalar.xori v39 v41
  let v43 : BitVec 32 := Scalar.ori v38 v42
  let c512_i32 : BitVec 32 := 512#32
  let v44 : BitVec 32 := Scalar.muli v43 c512_i32
  let v45 : Index := Scalar.indexCast v44
  let c0 : Index := 0#32
  ![v45.toNat, 0]
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_35 : BitVec 32 := 1#32
  let v58 : BitVec 32 := Scalar.xori v8 c1_i32_35
  let c4_i32_36 : BitVec 32 := 4#32
  let v59 : BitVec 32 := Scalar.andi v58 c4_i32_36
  let c3_i32_37 : BitVec 32 := 3#32
  let v60 : BitVec 32 := Scalar.andi v58 c3_i32_37
  let c3_i32_38 : BitVec 32 := 3#32
  let v61 : BitVec 32 := Scalar.andi v58 c3_i32_38
  let c1_i32_39 : BitVec 32 := 1#32
  let v62 : BitVec 32 := Scalar.shrsi v61 c1_i32_39
  let v63 : BitVec 32 := Scalar.xori v60 v62
  let v64 : BitVec 32 := Scalar.ori v59 v63
  let c1_i32_46 : BitVec 32 := 1#32
  let v65 : BitVec 32 := Scalar.muli v64 c1_i32_46
  let v66 : BitVec 32 := Scalar.addi c0_i32_47 v65
  v66.toNat
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_65 : BitVec 32 := 2#32
  let v96 : BitVec 32 := Scalar.xori v8 c2_i32_65
  let c4_i32_66 : BitVec 32 := 4#32
  let v97 : BitVec 32 := Scalar.andi v96 c4_i32_66
  let c3_i32_67 : BitVec 32 := 3#32
  let v98 : BitVec 32 := Scalar.andi v96 c3_i32_67
  let c3_i32_68 : BitVec 32 := 3#32
  let v99 : BitVec 32 := Scalar.andi v96 c3_i32_68
  let c1_i32_69 : BitVec 32 := 1#32
  let v100 : BitVec 32 := Scalar.shrsi v99 c1_i32_69
  let v101 : BitVec 32 := Scalar.xori v98 v100
  let v102 : BitVec 32 := Scalar.ori v97 v101
  let c1_i32_76 : BitVec 32 := 1#32
  let v103 : BitVec 32 := Scalar.muli v102 c1_i32_76
  let v104 : BitVec 32 := Scalar.addi c0_i32_77 v103
  v104.toNat
def k0_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_95 : BitVec 32 := 4#32
  let v134 : BitVec 32 := Scalar.xori v8 c4_i32_95
  let c4_i32_96 : BitVec 32 := 4#32
  let v135 : BitVec 32 := Scalar.andi v134 c4_i32_96
  let c3_i32_97 : BitVec 32 := 3#32
  let v136 : BitVec 32 := Scalar.andi v134 c3_i32_97
  let c3_i32_98 : BitVec 32 := 3#32
  let v137 : BitVec 32 := Scalar.andi v134 c3_i32_98
  let c1_i32_99 : BitVec 32 := 1#32
  let v138 : BitVec 32 := Scalar.shrsi v137 c1_i32_99
  let v139 : BitVec 32 := Scalar.xori v136 v138
  let v140 : BitVec 32 := Scalar.ori v135 v139
  let c1_i32_106 : BitVec 32 := 1#32
  let v141 : BitVec 32 := Scalar.muli v140 c1_i32_106
  let v142 : BitVec 32 := Scalar.addi c0_i32_107 v141
  v142.toNat
def k0_dev7 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_125 : BitVec 32 := 1#32
  let v172 : BitVec 32 := Scalar.xori v8 c1_i32_125
  let c4_i32_126 : BitVec 32 := 4#32
  let v173 : BitVec 32 := Scalar.andi v172 c4_i32_126
  let c3_i32_127 : BitVec 32 := 3#32
  let v174 : BitVec 32 := Scalar.andi v172 c3_i32_127
  let c3_i32_128 : BitVec 32 := 3#32
  let v175 : BitVec 32 := Scalar.andi v172 c3_i32_128
  let c1_i32_129 : BitVec 32 := 1#32
  let v176 : BitVec 32 := Scalar.shrsi v175 c1_i32_129
  let v177 : BitVec 32 := Scalar.xori v174 v176
  let v178 : BitVec 32 := Scalar.ori v173 v177
  let c1_i32_136 : BitVec 32 := 1#32
  let v179 : BitVec 32 := Scalar.muli v178 c1_i32_136
  let v180 : BitVec 32 := Scalar.addi c0_i32_137 v179
  v180.toNat
def k0_dev8 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_155 : BitVec 32 := 2#32
  let v210 : BitVec 32 := Scalar.xori v8 c2_i32_155
  let c4_i32_156 : BitVec 32 := 4#32
  let v211 : BitVec 32 := Scalar.andi v210 c4_i32_156
  let c3_i32_157 : BitVec 32 := 3#32
  let v212 : BitVec 32 := Scalar.andi v210 c3_i32_157
  let c3_i32_158 : BitVec 32 := 3#32
  let v213 : BitVec 32 := Scalar.andi v210 c3_i32_158
  let c1_i32_159 : BitVec 32 := 1#32
  let v214 : BitVec 32 := Scalar.shrsi v213 c1_i32_159
  let v215 : BitVec 32 := Scalar.xori v212 v214
  let v216 : BitVec 32 := Scalar.ori v211 v215
  let c1_i32_166 : BitVec 32 := 1#32
  let v217 : BitVec 32 := Scalar.muli v216 c1_i32_166
  let v218 : BitVec 32 := Scalar.addi c0_i32_167 v217
  v218.toNat
def k0_dev9 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_185 : BitVec 32 := 4#32
  let v248 : BitVec 32 := Scalar.xori v8 c4_i32_185
  let c4_i32_186 : BitVec 32 := 4#32
  let v249 : BitVec 32 := Scalar.andi v248 c4_i32_186
  let c3_i32_187 : BitVec 32 := 3#32
  let v250 : BitVec 32 := Scalar.andi v248 c3_i32_187
  let c3_i32_188 : BitVec 32 := 3#32
  let v251 : BitVec 32 := Scalar.andi v248 c3_i32_188
  let c1_i32_189 : BitVec 32 := 1#32
  let v252 : BitVec 32 := Scalar.shrsi v251 c1_i32_189
  let v253 : BitVec 32 := Scalar.xori v250 v252
  let v254 : BitVec 32 := Scalar.ori v249 v253
  let c1_i32_196 : BitVec 32 := 1#32
  let v255 : BitVec 32 := Scalar.muli v254 c1_i32_196
  let v256 : BitVec 32 := Scalar.addi c0_i32_197 v255
  v256.toNat
def k0_dev10 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_215 : BitVec 32 := 1#32
  let v286 : BitVec 32 := Scalar.xori v8 c1_i32_215
  let c4_i32_216 : BitVec 32 := 4#32
  let v287 : BitVec 32 := Scalar.andi v286 c4_i32_216
  let c3_i32_217 : BitVec 32 := 3#32
  let v288 : BitVec 32 := Scalar.andi v286 c3_i32_217
  let c3_i32_218 : BitVec 32 := 3#32
  let v289 : BitVec 32 := Scalar.andi v286 c3_i32_218
  let c1_i32_219 : BitVec 32 := 1#32
  let v290 : BitVec 32 := Scalar.shrsi v289 c1_i32_219
  let v291 : BitVec 32 := Scalar.xori v288 v290
  let v292 : BitVec 32 := Scalar.ori v287 v291
  let c1_i32_226 : BitVec 32 := 1#32
  let v293 : BitVec 32 := Scalar.muli v292 c1_i32_226
  let v294 : BitVec 32 := Scalar.addi c0_i32_227 v293
  v294.toNat
def k0_dev11 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_246 : BitVec 32 := 2#32
  let v324 : BitVec 32 := Scalar.xori v8 c2_i32_246
  let c4_i32_247 : BitVec 32 := 4#32
  let v325 : BitVec 32 := Scalar.andi v324 c4_i32_247
  let c3_i32_248 : BitVec 32 := 3#32
  let v326 : BitVec 32 := Scalar.andi v324 c3_i32_248
  let c3_i32_249 : BitVec 32 := 3#32
  let v327 : BitVec 32 := Scalar.andi v324 c3_i32_249
  let c1_i32_250 : BitVec 32 := 1#32
  let v328 : BitVec 32 := Scalar.shrsi v327 c1_i32_250
  let v329 : BitVec 32 := Scalar.xori v326 v328
  let v330 : BitVec 32 := Scalar.ori v325 v329
  let c1_i32_257 : BitVec 32 := 1#32
  let v331 : BitVec 32 := Scalar.muli v330 c1_i32_257
  let v332 : BitVec 32 := Scalar.addi c0_i32_258 v331
  v332.toNat
def k0_dev12 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_277 : BitVec 32 := 4#32
  let v362 : BitVec 32 := Scalar.xori v8 c4_i32_277
  let c4_i32_278 : BitVec 32 := 4#32
  let v363 : BitVec 32 := Scalar.andi v362 c4_i32_278
  let c3_i32_279 : BitVec 32 := 3#32
  let v364 : BitVec 32 := Scalar.andi v362 c3_i32_279
  let c3_i32_280 : BitVec 32 := 3#32
  let v365 : BitVec 32 := Scalar.andi v362 c3_i32_280
  let c1_i32_281 : BitVec 32 := 1#32
  let v366 : BitVec 32 := Scalar.shrsi v365 c1_i32_281
  let v367 : BitVec 32 := Scalar.xori v364 v366
  let v368 : BitVec 32 := Scalar.ori v363 v367
  let c1_i32_288 : BitVec 32 := 1#32
  let v369 : BitVec 32 := Scalar.muli v368 c1_i32_288
  let v370 : BitVec 32 := Scalar.addi c0_i32_289 v369
  v370.toNat
def k0_dev13 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_307 : BitVec 32 := 1#32
  let v400 : BitVec 32 := Scalar.xori v8 c1_i32_307
  let c4_i32_308 : BitVec 32 := 4#32
  let v401 : BitVec 32 := Scalar.andi v400 c4_i32_308
  let c3_i32_309 : BitVec 32 := 3#32
  let v402 : BitVec 32 := Scalar.andi v400 c3_i32_309
  let c3_i32_310 : BitVec 32 := 3#32
  let v403 : BitVec 32 := Scalar.andi v400 c3_i32_310
  let c1_i32_311 : BitVec 32 := 1#32
  let v404 : BitVec 32 := Scalar.shrsi v403 c1_i32_311
  let v405 : BitVec 32 := Scalar.xori v402 v404
  let v406 : BitVec 32 := Scalar.ori v401 v405
  let c1_i32_318 : BitVec 32 := 1#32
  let v407 : BitVec 32 := Scalar.muli v406 c1_i32_318
  let v408 : BitVec 32 := Scalar.addi c0_i32_319 v407
  v408.toNat
def k0_dev14 (d0 : Dev nD) : Nat :=
  let c0_i32_350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_338 : BitVec 32 := 2#32
  let v438 : BitVec 32 := Scalar.xori v8 c2_i32_338
  let c4_i32_339 : BitVec 32 := 4#32
  let v439 : BitVec 32 := Scalar.andi v438 c4_i32_339
  let c3_i32_340 : BitVec 32 := 3#32
  let v440 : BitVec 32 := Scalar.andi v438 c3_i32_340
  let c3_i32_341 : BitVec 32 := 3#32
  let v441 : BitVec 32 := Scalar.andi v438 c3_i32_341
  let c1_i32_342 : BitVec 32 := 1#32
  let v442 : BitVec 32 := Scalar.shrsi v441 c1_i32_342
  let v443 : BitVec 32 := Scalar.xori v440 v442
  let v444 : BitVec 32 := Scalar.ori v439 v443
  let c1_i32_349 : BitVec 32 := 1#32
  let v445 : BitVec 32 := Scalar.muli v444 c1_i32_349
  let v446 : BitVec 32 := Scalar.addi c0_i32_350 v445
  v446.toNat
def k0_dev15 (d0 : Dev nD) : Nat :=
  let c0_i32_381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_369 : BitVec 32 := 4#32
  let v476 : BitVec 32 := Scalar.xori v8 c4_i32_369
  let c4_i32_370 : BitVec 32 := 4#32
  let v477 : BitVec 32 := Scalar.andi v476 c4_i32_370
  let c3_i32_371 : BitVec 32 := 3#32
  let v478 : BitVec 32 := Scalar.andi v476 c3_i32_371
  let c3_i32_372 : BitVec 32 := 3#32
  let v479 : BitVec 32 := Scalar.andi v476 c3_i32_372
  let c1_i32_373 : BitVec 32 := 1#32
  let v480 : BitVec 32 := Scalar.shrsi v479 c1_i32_373
  let v481 : BitVec 32 := Scalar.xori v478 v480
  let v482 : BitVec 32 := Scalar.ori v477 v481
  let c1_i32_380 : BitVec 32 := 1#32
  let v483 : BitVec 32 := Scalar.muli v482 c1_i32_380
  let v484 : BitVec 32 := Scalar.addi c0_i32_381 v483
  v484.toNat
def k0_dev16 (d0 : Dev nD) : Nat :=
  let c0_i32_544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_532 : BitVec 32 := 2#32
  let v701 : BitVec 32 := Scalar.xori v8 c2_i32_532
  let c4_i32_533 : BitVec 32 := 4#32
  let v702 : BitVec 32 := Scalar.andi v701 c4_i32_533
  let c3_i32_534 : BitVec 32 := 3#32
  let v703 : BitVec 32 := Scalar.andi v701 c3_i32_534
  let c3_i32_535 : BitVec 32 := 3#32
  let v704 : BitVec 32 := Scalar.andi v701 c3_i32_535
  let c1_i32_536 : BitVec 32 := 1#32
  let v705 : BitVec 32 := Scalar.shrsi v704 c1_i32_536
  let v706 : BitVec 32 := Scalar.xori v703 v705
  let v707 : BitVec 32 := Scalar.ori v702 v706
  let c1_i32_543 : BitVec 32 := 1#32
  let v708 : BitVec 32 := Scalar.muli v707 c1_i32_543
  let v709 : BitVec 32 := Scalar.addi c0_i32_544 v708
  v709.toNat
def k0_dev17 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_573 : BitVec 32 := 4#32
  let v743 : BitVec 32 := Scalar.xori v8 c4_i32_573
  let c4_i32_574 : BitVec 32 := 4#32
  let v744 : BitVec 32 := Scalar.andi v743 c4_i32_574
  let c3_i32_575 : BitVec 32 := 3#32
  let v745 : BitVec 32 := Scalar.andi v743 c3_i32_575
  let c3_i32_576 : BitVec 32 := 3#32
  let v746 : BitVec 32 := Scalar.andi v743 c3_i32_576
  let c1_i32_577 : BitVec 32 := 1#32
  let v747 : BitVec 32 := Scalar.shrsi v746 c1_i32_577
  let v748 : BitVec 32 := Scalar.xori v745 v747
  let v749 : BitVec 32 := Scalar.ori v744 v748
  let c1_i32_584 : BitVec 32 := 1#32
  let v750 : BitVec 32 := Scalar.muli v749 c1_i32_584
  let v751 : BitVec 32 := Scalar.addi c0_i32_585 v750
  v751.toNat
def k0_dev18 (d0 : Dev nD) : Nat :=
  let c0_i32_626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_614 : BitVec 32 := 1#32
  let v785 : BitVec 32 := Scalar.xori v8 c1_i32_614
  let c4_i32_615 : BitVec 32 := 4#32
  let v786 : BitVec 32 := Scalar.andi v785 c4_i32_615
  let c3_i32_616 : BitVec 32 := 3#32
  let v787 : BitVec 32 := Scalar.andi v785 c3_i32_616
  let c3_i32_617 : BitVec 32 := 3#32
  let v788 : BitVec 32 := Scalar.andi v785 c3_i32_617
  let c1_i32_618 : BitVec 32 := 1#32
  let v789 : BitVec 32 := Scalar.shrsi v788 c1_i32_618
  let v790 : BitVec 32 := Scalar.xori v787 v789
  let v791 : BitVec 32 := Scalar.ori v786 v790
  let c1_i32_625 : BitVec 32 := 1#32
  let v792 : BitVec 32 := Scalar.muli v791 c1_i32_625
  let v793 : BitVec 32 := Scalar.addi c0_i32_626 v792
  v793.toNat
def k0_dev19 (d0 : Dev nD) : Nat :=
  let c0_i32_667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_655 : BitVec 32 := 2#32
  let v827 : BitVec 32 := Scalar.xori v8 c2_i32_655
  let c4_i32_656 : BitVec 32 := 4#32
  let v828 : BitVec 32 := Scalar.andi v827 c4_i32_656
  let c3_i32_657 : BitVec 32 := 3#32
  let v829 : BitVec 32 := Scalar.andi v827 c3_i32_657
  let c3_i32_658 : BitVec 32 := 3#32
  let v830 : BitVec 32 := Scalar.andi v827 c3_i32_658
  let c1_i32_659 : BitVec 32 := 1#32
  let v831 : BitVec 32 := Scalar.shrsi v830 c1_i32_659
  let v832 : BitVec 32 := Scalar.xori v829 v831
  let v833 : BitVec 32 := Scalar.ori v828 v832
  let c1_i32_666 : BitVec 32 := 1#32
  let v834 : BitVec 32 := Scalar.muli v833 c1_i32_666
  let v835 : BitVec 32 := Scalar.addi c0_i32_667 v834
  v835.toNat
def k0_dev20 (d0 : Dev nD) : Nat :=
  let c0_i32_708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_696 : BitVec 32 := 4#32
  let v869 : BitVec 32 := Scalar.xori v8 c4_i32_696
  let c4_i32_697 : BitVec 32 := 4#32
  let v870 : BitVec 32 := Scalar.andi v869 c4_i32_697
  let c3_i32_698 : BitVec 32 := 3#32
  let v871 : BitVec 32 := Scalar.andi v869 c3_i32_698
  let c3_i32_699 : BitVec 32 := 3#32
  let v872 : BitVec 32 := Scalar.andi v869 c3_i32_699
  let c1_i32_700 : BitVec 32 := 1#32
  let v873 : BitVec 32 := Scalar.shrsi v872 c1_i32_700
  let v874 : BitVec 32 := Scalar.xori v871 v873
  let v875 : BitVec 32 := Scalar.ori v870 v874
  let c1_i32_707 : BitVec 32 := 1#32
  let v876 : BitVec 32 := Scalar.muli v875 c1_i32_707
  let v877 : BitVec 32 := Scalar.addi c0_i32_708 v876
  v877.toNat
def k0_dev21 (d0 : Dev nD) : Nat :=
  let c0_i32_749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_737 : BitVec 32 := 1#32
  let v911 : BitVec 32 := Scalar.xori v8 c1_i32_737
  let c4_i32_738 : BitVec 32 := 4#32
  let v912 : BitVec 32 := Scalar.andi v911 c4_i32_738
  let c3_i32_739 : BitVec 32 := 3#32
  let v913 : BitVec 32 := Scalar.andi v911 c3_i32_739
  let c3_i32_740 : BitVec 32 := 3#32
  let v914 : BitVec 32 := Scalar.andi v911 c3_i32_740
  let c1_i32_741 : BitVec 32 := 1#32
  let v915 : BitVec 32 := Scalar.shrsi v914 c1_i32_741
  let v916 : BitVec 32 := Scalar.xori v913 v915
  let v917 : BitVec 32 := Scalar.ori v912 v916
  let c1_i32_748 : BitVec 32 := 1#32
  let v918 : BitVec 32 := Scalar.muli v917 c1_i32_748
  let v919 : BitVec 32 := Scalar.addi c0_i32_749 v918
  v919.toNat
def k0_dev22 (d0 : Dev nD) : Nat :=
  let c0_i32_929 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_917 : BitVec 32 := 4#32
  let v1096 : BitVec 32 := Scalar.xori v8 c4_i32_917
  let c4_i32_918 : BitVec 32 := 4#32
  let v1097 : BitVec 32 := Scalar.andi v1096 c4_i32_918
  let c3_i32_919 : BitVec 32 := 3#32
  let v1098 : BitVec 32 := Scalar.andi v1096 c3_i32_919
  let c3_i32_920 : BitVec 32 := 3#32
  let v1099 : BitVec 32 := Scalar.andi v1096 c3_i32_920
  let c1_i32_921 : BitVec 32 := 1#32
  let v1100 : BitVec 32 := Scalar.shrsi v1099 c1_i32_921
  let v1101 : BitVec 32 := Scalar.xori v1098 v1100
  let v1102 : BitVec 32 := Scalar.ori v1097 v1101
  let c1_i32_928 : BitVec 32 := 1#32
  let v1103 : BitVec 32 := Scalar.muli v1102 c1_i32_928
  let v1104 : BitVec 32 := Scalar.addi c0_i32_929 v1103
  v1104.toNat
def k0_dev23 (d0 : Dev nD) : Nat :=
  let c0_i32_971 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_959 : BitVec 32 := 1#32
  let v1137 : BitVec 32 := Scalar.xori v8 c1_i32_959
  let c4_i32_960 : BitVec 32 := 4#32
  let v1138 : BitVec 32 := Scalar.andi v1137 c4_i32_960
  let c3_i32_961 : BitVec 32 := 3#32
  let v1139 : BitVec 32 := Scalar.andi v1137 c3_i32_961
  let c3_i32_962 : BitVec 32 := 3#32
  let v1140 : BitVec 32 := Scalar.andi v1137 c3_i32_962
  let c1_i32_963 : BitVec 32 := 1#32
  let v1141 : BitVec 32 := Scalar.shrsi v1140 c1_i32_963
  let v1142 : BitVec 32 := Scalar.xori v1139 v1141
  let v1143 : BitVec 32 := Scalar.ori v1138 v1142
  let c1_i32_970 : BitVec 32 := 1#32
  let v1144 : BitVec 32 := Scalar.muli v1143 c1_i32_970
  let v1145 : BitVec 32 := Scalar.addi c0_i32_971 v1144
  v1145.toNat
def k0_dev24 (d0 : Dev nD) : Nat :=
  let c0_i32_1013 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_1001 : BitVec 32 := 2#32
  let v1178 : BitVec 32 := Scalar.xori v8 c2_i32_1001
  let c4_i32_1002 : BitVec 32 := 4#32
  let v1179 : BitVec 32 := Scalar.andi v1178 c4_i32_1002
  let c3_i32_1003 : BitVec 32 := 3#32
  let v1180 : BitVec 32 := Scalar.andi v1178 c3_i32_1003
  let c3_i32_1004 : BitVec 32 := 3#32
  let v1181 : BitVec 32 := Scalar.andi v1178 c3_i32_1004
  let c1_i32_1005 : BitVec 32 := 1#32
  let v1182 : BitVec 32 := Scalar.shrsi v1181 c1_i32_1005
  let v1183 : BitVec 32 := Scalar.xori v1180 v1182
  let v1184 : BitVec 32 := Scalar.ori v1179 v1183
  let c1_i32_1012 : BitVec 32 := 1#32
  let v1185 : BitVec 32 := Scalar.muli v1184 c1_i32_1012
  let v1186 : BitVec 32 := Scalar.addi c0_i32_1013 v1185
  v1186.toNat
def k0_dev25 (d0 : Dev nD) : Nat :=
  let c0_i32_1406_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_1399_r0 : BitVec 32 := 1#32
  let v1478_r0 : BitVec 32 := Scalar.xori v8 c1_i32_1399_r0
  let c4_i32_1400_r0 : BitVec 32 := 4#32
  let v1479_r0 : BitVec 32 := Scalar.andi v1478_r0 c4_i32_1400_r0
  let c3_i32_1401_r0 : BitVec 32 := 3#32
  let v1480_r0 : BitVec 32 := Scalar.andi v1478_r0 c3_i32_1401_r0
  let c3_i32_1402_r0 : BitVec 32 := 3#32
  let v1481_r0 : BitVec 32 := Scalar.andi v1478_r0 c3_i32_1402_r0
  let c1_i32_1403_r0 : BitVec 32 := 1#32
  let v1482_r0 : BitVec 32 := Scalar.shrsi v1481_r0 c1_i32_1403_r0
  let v1483_r0 : BitVec 32 := Scalar.xori v1480_r0 v1482_r0
  let v1484_r0 : BitVec 32 := Scalar.ori v1479_r0 v1483_r0
  let c1_i32_1405_r0 : BitVec 32 := 1#32
  let v1485_r0 : BitVec 32 := Scalar.muli v1484_r0 c1_i32_1405_r0
  let v1486_r0 : BitVec 32 := Scalar.addi c0_i32_1406_r0 v1485_r0
  v1486_r0.toNat
def k0_dev26 (d0 : Dev nD) : Nat :=
  let c0_i32_1414_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_1407_r0 : BitVec 32 := 2#32
  let v1487_r0 : BitVec 32 := Scalar.xori v8 c2_i32_1407_r0
  let c4_i32_1408_r0 : BitVec 32 := 4#32
  let v1488_r0 : BitVec 32 := Scalar.andi v1487_r0 c4_i32_1408_r0
  let c3_i32_1409_r0 : BitVec 32 := 3#32
  let v1489_r0 : BitVec 32 := Scalar.andi v1487_r0 c3_i32_1409_r0
  let c3_i32_1410_r0 : BitVec 32 := 3#32
  let v1490_r0 : BitVec 32 := Scalar.andi v1487_r0 c3_i32_1410_r0
  let c1_i32_1411_r0 : BitVec 32 := 1#32
  let v1491_r0 : BitVec 32 := Scalar.shrsi v1490_r0 c1_i32_1411_r0
  let v1492_r0 : BitVec 32 := Scalar.xori v1489_r0 v1491_r0
  let v1493_r0 : BitVec 32 := Scalar.ori v1488_r0 v1492_r0
  let c1_i32_1413_r0 : BitVec 32 := 1#32
  let v1494_r0 : BitVec 32 := Scalar.muli v1493_r0 c1_i32_1413_r0
  let v1495_r0 : BitVec 32 := Scalar.addi c0_i32_1414_r0 v1494_r0
  v1495_r0.toNat
def k0_dev27 (d0 : Dev nD) : Nat :=
  let c0_i32_1422_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_1415_r0 : BitVec 32 := 4#32
  let v1496_r0 : BitVec 32 := Scalar.xori v8 c4_i32_1415_r0
  let c4_i32_1416_r0 : BitVec 32 := 4#32
  let v1497_r0 : BitVec 32 := Scalar.andi v1496_r0 c4_i32_1416_r0
  let c3_i32_1417_r0 : BitVec 32 := 3#32
  let v1498_r0 : BitVec 32 := Scalar.andi v1496_r0 c3_i32_1417_r0
  let c3_i32_1418_r0 : BitVec 32 := 3#32
  let v1499_r0 : BitVec 32 := Scalar.andi v1496_r0 c3_i32_1418_r0
  let c1_i32_1419_r0 : BitVec 32 := 1#32
  let v1500_r0 : BitVec 32 := Scalar.shrsi v1499_r0 c1_i32_1419_r0
  let v1501_r0 : BitVec 32 := Scalar.xori v1498_r0 v1500_r0
  let v1502_r0 : BitVec 32 := Scalar.ori v1497_r0 v1501_r0
  let c1_i32_1421_r0 : BitVec 32 := 1#32
  let v1503_r0 : BitVec 32 := Scalar.muli v1502_r0 c1_i32_1421_r0
  let v1504_r0 : BitVec 32 := Scalar.addi c0_i32_1422_r0 v1503_r0
  v1504_r0.toNat
abbrev stage0_0 : Fin 1 → Memref sig .tc .vmem S4096x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Mesh.lean ====
/-
# The exchange kernel's protocol, 1: the cube of devices and the channels

Eight devices stand on a cube: along each of three directions a device has one partner, and partners are
mutual. A device starts 21 remote copies, numbered `n = 3 * slot + group`: three column groups of the result (columns
0–639, 640–1279 and 1280–2047), seven slots each. Group `g` reduces along direction `g` first (slots 0–3, eight-bit
partial products), then along `g + 1` (slots 4, 5, sixteen-bit) and last along `g + 2` (slot 6, sixteen-bit). The
copies are started, their arrivals awaited and their departures awaited in the one order of `n`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Cube

open Cert.KernelIdeal Cert.KernelIdeal.Gen
open Idealize.ShloMosaic
open Idealize.ShloMosaic.TcCoe

/-! ## The cube -/

set_option backward.proofsInPublic true in
/-- A device's partner along direction `i`: its number with the bits 1, 3 or 4 flipped. -/
def pt (i : Fin 3) (c : Dev nD) : Dev nD :=
  ⟨(match i with | 0 => c.val ^^^ 1 | 1 => c.val ^^^ 3 | 2 => c.val ^^^ 4) % 8, Nat.mod_lt _ (by decide)⟩

/-- Partners are mutual. -/
theorem pt_pt (i : Fin 3) (c : Dev nD) : pt i (pt i c) = c := by revert i c; decide

/-- The exchange along direction `i`, as a permutation of the devices. -/
def swap (i : Fin 3) : Dev nD ≃ Dev nD := ⟨pt i, pt i, pt_pt i, pt_pt i⟩

/-- The direction of copy `n`. -/
def dir (n : Fin 21) : Fin 3 := ⟨(n.val + (if n.val < 12 then 0 else if n.val < 18 then 1 else 2)) % 3, Nat.mod_lt _ (by decide)⟩

/-- The device copy `n` of device `c` goes to, and from which its own copy `n` comes. -/
def peer (n : Fin 21) (c : Dev nD) : Dev nD := pt (dir n) c
theorem peer_peer (n : Fin 21) (c : Dev nD) : peer n (peer n c) = c := pt_pt _ _

/-- The devices the body computes: the entry signals', -/
theorem dev1_eq (c : Dev nD) : (⟨k0_dev1 c, k0_dev1_lt c⟩ : Dev nD) = pt 0 c := by revert c; decide
theorem dev2_eq (c : Dev nD) : (⟨k0_dev2 c, k0_dev2_lt c⟩ : Dev nD) = pt 1 c := by revert c; decide
theorem dev3_eq (c : Dev nD) : (⟨k0_dev3 c, k0_dev3_lt c⟩ : Dev nD) = pt 2 c := by revert c; decide
/-- the 21 copies', -/
theorem dev4_eq (c : Dev nD) : (⟨k0_dev4 c, k0_dev4_lt c⟩ : Dev nD) = peer 0 c := by revert c; decide
theorem dev5_eq (c : Dev nD) : (⟨k0_dev5 c, k0_dev5_lt c⟩ : Dev nD) = peer 1 c := by revert c; decide
theorem dev6_eq (c : Dev nD) : (⟨k0_dev6 c, k0_dev6_lt c⟩ : Dev nD) = peer 2 c := by revert c; decide
theorem dev7_eq (c : Dev nD) : (⟨k0_dev7 c, k0_dev7_lt c⟩ : Dev nD) = peer 3 c := by revert c; decide
theorem dev8_eq (c : Dev nD) : (⟨k0_dev8 c, k0_dev8_lt c⟩ : Dev nD) = peer 4 c := by revert c; decide
theorem dev9_eq (c : Dev nD) : (⟨k0_dev9 c, k0_dev9_lt c⟩ : Dev nD) = peer 5 c := by revert c; decide
theorem dev10_eq (c : Dev nD) : (⟨k0_dev10 c, k0_dev10_lt c⟩ : Dev nD) = peer 6 c := by revert c; decide
theorem dev11_eq (c : Dev nD) : (⟨k0_dev11 c, k0_dev11_lt c⟩ : Dev nD) = peer 7 c := by revert c; decide
theorem dev12_eq (c : Dev nD) : (⟨k0_dev12 c, k0_dev12_lt c⟩ : Dev nD) = peer 8 c := by revert c; decide
theorem dev13_eq (c : Dev nD) : (⟨k0_dev13 c, k0_dev13_lt c⟩ : Dev nD) = peer 9 c := by revert c; decide
theorem dev14_eq (c : Dev nD) : (⟨k0_dev14 c, k0_dev14_lt c⟩ : Dev nD) = peer 10 c := by revert c; decide
theorem dev15_eq (c : Dev nD) : (⟨k0_dev15 c, k0_dev15_lt c⟩ : Dev nD) = peer 11 c := by revert c; decide
theorem dev16_eq (c : Dev nD) : (⟨k0_dev16 c, k0_dev16_lt c⟩ : Dev nD) = peer 12 c := by revert c; decide
theorem dev17_eq (c : Dev nD) : (⟨k0_dev17 c, k0_dev17_lt c⟩ : Dev nD) = peer 13 c := by revert c; decide
theorem dev18_eq (c : Dev nD) : (⟨k0_dev18 c, k0_dev18_lt c⟩ : Dev nD) = peer 14 c := by revert c; decide
theorem dev19_eq (c : Dev nD) : (⟨k0_dev19 c, k0_dev19_lt c⟩ : Dev nD) = peer 15 c := by revert c; decide
theorem dev20_eq (c : Dev nD) : (⟨k0_dev20 c, k0_dev20_lt c⟩ : Dev nD) = peer 16 c := by revert c; decide
theorem dev21_eq (c : Dev nD) : (⟨k0_dev21 c, k0_dev21_lt c⟩ : Dev nD) = peer 17 c := by revert c; decide
theorem dev22_eq (c : Dev nD) : (⟨k0_dev22 c, k0_dev22_lt c⟩ : Dev nD) = peer 18 c := by revert c; decide
theorem dev23_eq (c : Dev nD) : (⟨k0_dev23 c, k0_dev23_lt c⟩ : Dev nD) = peer 19 c := by revert c; decide
theorem dev24_eq (c : Dev nD) : (⟨k0_dev24 c, k0_dev24_lt c⟩ : Dev nD) = peer 20 c := by revert c; decide
/-- and the exit signals'. -/
theorem dev25_eq (c : Dev nD) : (⟨k0_dev25 c, k0_dev25_lt c⟩ : Dev nD) = pt 0 c := by revert c; decide
theorem dev26_eq (c : Dev nD) : (⟨k0_dev26 c, k0_dev26_lt c⟩ : Dev nD) = pt 1 c := by revert c; decide
theorem dev27_eq (c : Dev nD) : (⟨k0_dev27 c, k0_dev27_lt c⟩ : Dev nD) = pt 2 c := by revert c; decide

/-! ## The channels -/

/-- A channel: slot `i` of a send buffer of `a` slots `[512, w]` and slot `i` of a receive buffer of the same shape and
    element type. -/
structure Chan where
  e : EltTy
  w : ℕ
  a : ℕ
  src : Memref sig .tc .vmem ⟨3, ![a, 512, w]⟩ e
  dst : Memref sig .tc .vmem ⟨3, ![a, 512, w]⟩ e
  i : ℕ
  hi : ∀ x, (![i, 0, 0] : Fin 3 → ℕ) x + (![1, 512, w] : Fin 3 → ℕ) x ≤ (![a, 512, w] : Fin 3 → ℕ) x
  hq : (⟨3, ![1, 512, w]⟩ : Shape).Squeezes ⟨2, ![512, w]⟩
  hn : 0 < (⟨2, ![512, w]⟩ : Shape).numel

namespace Chan
variable (k : Chan)

/-- The slot's rectangle, the same in both buffers, -/
abbrev r : Rect ⟨3, ![k.a, 512, k.w]⟩ := Rect.unit (s := ⟨3, ![k.a, 512, k.w]⟩) ![k.i, 0, 0] ![1, 512, k.w] k.hi
/-- and the two slots as the copy names them. -/
abbrev sM : Memref sig .tc .vmem ⟨2, ![512, k.w]⟩ k.e := (k.src.slice k.r (fun _ => rfl)).squeeze ⟨2, ![512, k.w]⟩ k.hq
abbrev dM : Memref sig .tc .vmem ⟨2, ![512, k.w]⟩ k.e := (k.dst.slice k.r (fun _ => rfl)).squeeze ⟨2, ![512, k.w]⟩ k.hq
/-- What the copy credits its semaphores. -/
abbrev amt : ℕ := k.dM.view.dmaCredit
theorem amt_pos : 0 < k.amt := View.dmaCredit_pos _ k.hn

/-- Slot `i` of an eight-bit pair of buffers, four slots each; -/
abbrev eight {w : ℕ} (S R : Memref sig .tc .vmem ⟨3, ![4, 512, w]⟩ .fp8e4m3) (i : ℕ)
    (hi : ∀ x, (![i, 0, 0] : Fin 3 → ℕ) x + (![1, 512, w] : Fin 3 → ℕ) x ≤ (![4, 512, w] : Fin 3 → ℕ) x)
    (hq : (⟨3, ![1, 512, w]⟩ : Shape).Squeezes ⟨2, ![512, w]⟩) (hn : 0 < (⟨2, ![512, w]⟩ : Shape).numel) : Chan :=
  ⟨.fp8e4m3, w, 4, S, R, i, hi, hq, hn⟩
/-- of a sixteen-bit pair, three slots each. -/
abbrev sixteen {w : ℕ} (S R : Memref sig .tc .vmem ⟨3, ![3, 512, w]⟩ .bf16) (i : ℕ)
    (hi : ∀ x, (![i, 0, 0] : Fin 3 → ℕ) x + (![1, 512, w] : Fin 3 → ℕ) x ≤ (![3, 512, w] : Fin 3 → ℕ) x)
    (hq : (⟨3, ![1, 512, w]⟩ : Shape).Squeezes ⟨2, ![512, w]⟩) (hn : 0 < (⟨2, ![512, w]⟩ : Shape).numel) : Chan :=
  ⟨.bf16, w, 3, S, R, i, hi, hq, hn⟩

end Chan

set_option backward.proofsInPublic true in
/-- Copy `n`'s channel: slots 0–3 between the eight-bit buffers of its group, slots 4, 5, 6 between the sixteen-bit ones. -/
def chan : Fin 21 → Chan
  | 0 => .eight (.whole cc0_scratch0) (.whole cc0_scratch3) 0 (by decide) (by decide) (by decide)
  | 1 => .eight (.whole cc0_scratch1) (.whole cc0_scratch4) 0 (by decide) (by decide) (by decide)
  | 2 => .eight (.whole cc0_scratch2) (.whole cc0_scratch5) 0 (by decide) (by decide) (by decide)
  | 3 => .eight (.whole cc0_scratch0) (.whole cc0_scratch3) 1 (by decide) (by decide) (by decide)
  | 4 => .eight (.whole cc0_scratch1) (.whole cc0_scratch4) 1 (by decide) (by decide) (by decide)
  | 5 => .eight (.whole cc0_scratch2) (.whole cc0_scratch5) 1 (by decide) (by decide) (by decide)
  | 6 => .eight (.whole cc0_scratch0) (.whole cc0_scratch3) 2 (by decide) (by decide) (by decide)
  | 7 => .eight (.whole cc0_scratch1) (.whole cc0_scratch4) 2 (by decide) (by decide) (by decide)
  | 8 => .eight (.whole cc0_scratch2) (.whole cc0_scratch5) 2 (by decide) (by decide) (by decide)
  | 9 => .eight (.whole cc0_scratch0) (.whole cc0_scratch3) 3 (by decide) (by decide) (by decide)
  | 10 => .eight (.whole cc0_scratch1) (.whole cc0_scratch4) 3 (by decide) (by decide) (by decide)
  | 11 => .eight (.whole cc0_scratch2) (.whole cc0_scratch5) 3 (by decide) (by decide) (by decide)
  | 12 => .sixteen (.whole cc0_scratch6) (.whole cc0_scratch9) 0 (by decide) (by decide) (by decide)
  | 13 => .sixteen (.whole cc0_scratch7) (.whole cc0_scratch10) 0 (by decide) (by decide) (by decide)
  | 14 => .sixteen (.whole cc0_scratch8) (.whole cc0_scratch11) 0 (by decide) (by decide) (by decide)
  | 15 => .sixteen (.whole cc0_scratch6) (.whole cc0_scratch9) 1 (by decide) (by decide) (by decide)
  | 16 => .sixteen (.whole cc0_scratch7) (.whole cc0_scratch10) 1 (by decide) (by decide) (by decide)
  | 17 => .sixteen (.whole cc0_scratch8) (.whole cc0_scratch11) 1 (by decide) (by decide) (by decide)
  | 18 => .sixteen (.whole cc0_scratch6) (.whole cc0_scratch9) 2 (by decide) (by decide) (by decide)
  | 19 => .sixteen (.whole cc0_scratch7) (.whole cc0_scratch10) 2 (by decide) (by decide) (by decide)
  | 20 => .sixteen (.whole cc0_scratch8) (.whole cc0_scratch11) 2 (by decide) (by decide) (by decide)
  | ⟨_ + 21, h⟩ => absurd h (Nat.not_lt.2 (Nat.le_add_left _ _))

/-- The departure and the arrival semaphore of copy `n`: row `n % 3`, column `n / 3` of the kernel's two 3 × 7 arrays. -/
def sS (n : Fin 21) : DmaSem sig := ⟨5 + (7 * (n.val % 3) + n.val / 3), by have := n.isLt; show _ < 47; omega⟩
def rS (n : Fin 21) : DmaSem sig := ⟨26 + (7 * (n.val % 3) + n.val / 3), by have := n.isLt; show _ < 47; omega⟩

/-- The entry barrier's semaphore, and the exit barrier's. -/
abbrev barS : Sem sig := (SemArray.scalar (sig.barrier 0 rfl) : Sems sig S_).sem
abbrev finS : Sem sig := cc0_scoped0.sem

end Cert.Cube
-- ==== Proof.Contents.lean ====
/-
# The exchange kernel's protocol, 2: what every buffer holds

Each column group computes the same way, at its own width and with its own devices. A device first multiplies
the row blocks of its `x` that its four partners-to-be want, and sends them in eight bits; it adds what it receives to
its own products of four more row blocks, sends two of the four sums on in sixteen bits, adds the two received to the
two kept, sends one of these on, and the last sum, scaled and passed through the activation, is its block of the result.
-/
module

public import proofs.«01_k».proof.Proof.Mesh

@[expose] public section

noncomputable section

namespace Cert.Cube

open Cert.KernelIdeal Cert.KernelIdeal.Gen
open Idealize.ShloMosaic
open Idealize.ShloMosaic.TcCoe

variable {F : FTy → Type} [FloatOps F]

/-- What the four inputs hold on every device. -/
structure Ins (F : FTy → Type) where
  x : Dev nD → (cc0_stg0_0 : Ref sig .tc).ty.Contents (Elt F)
  w : Dev nD → (cc0_stg1_0 : Ref sig .tc).ty.Contents (Elt F)
  a : Dev nD → (cc0_stg2_0 : Ref sig .tc).ty.Contents (Elt F)
  b : Dev nD → (cc0_stg3_0 : Ref sig .tc).ty.Contents (Elt F)

/-- A column group: its width and first column, the row blocks it sends (`e`) and keeps (`q`) by the offset from the
    device's own block, its first direction, and the shape facts its arithmetic uses. -/
structure Group where
  w : ℕ
  o : ℕ
  e : Fin 4 → Fin 8
  q : Fin 4 → Fin 8
  d : Fin 3
  D : DotDims S512x512 ⟨2, ![512, w]⟩ ⟨2, ![512, w]⟩
  hup : (⟨2, ![512, w]⟩ : Shape).ShapeCasts ⟨3, ![1, 512, w]⟩
  hdn : (⟨3, ![1, 512, w]⟩ : Shape).ShapeCasts ⟨2, ![512, w]⟩
  hid : (⟨2, ![512, w]⟩ : Shape).ShapeCasts ⟨2, ![512, w]⟩
  inb : ∀ a, (![0, o] : Fin 2 → ℕ) a + (⟨2, ![512, w]⟩ : Shape).size a ≤ S512x2048.size a

namespace Group
variable (g : Group)

abbrev s2 : Shape := ⟨2, ![512, g.w]⟩
abbrev s3 : Shape := ⟨3, ![1, 512, g.w]⟩
/-- The group's columns of a `512 × 2048` buffer. -/
abbrev cols : Rect S512x2048 := Rect.unit (s := S512x2048) ![0, g.o] g.s2.size g.inb

/-- The integer product of a row block and the group's columns of the weight, -/
def dot (x : Vec F S512x512 .i8) (wt : Vec F g.s2 .i8) : IVec g.s2 32 :=
  matmulI8 IntMxuNumerics.v7x g.D (shapeCast S512x512 x shapeCasts_S512x512_S512x512) (shapeCast g.s2 wt g.hid) (constantI g.s2 32 0#32)
/-- the same as a float, -/
def mine (x : Vec F S512x512 .i8) (wt : Vec F g.s2 .i8) : FVec F g.s2 .f32 := sitofp .f32 (g.dot x wt)
/-- and scaled down into eight bits, as it is sent. -/
def wire (x : Vec F S512x512 .i8) (wt : Vec F g.s2 .i8) : FVec F g.s3 .fp8e4m3 :=
  shapeCast g.s3 (truncf .fp8e4m3 (mulf (g.mine x wt) (broadcast g.s2 (Scalar.ofBits .f32 0x38000000#32))) bitsLt_fp8e4m3_f32) g.hup
/-- A kept product and a received eight-bit one, scaled up again; -/
def sum8 (l : FVec F g.s2 .f32) (v : FVec F g.s3 .fp8e4m3) : FVec F g.s2 .f32 :=
  addf l (mulf (extf .f32 (shapeCast g.s2 v g.hdn) bitsLt_fp8e4m3_f32) (broadcast g.s2 (Scalar.ofBits .f32 0x47000000#32)))
/-- a kept sum and a received sixteen-bit one. -/
def sum16 (l : FVec F g.s2 .f32) (v : FVec F g.s3 .bf16) : FVec F g.s2 .f32 :=
  addf l (extf .f32 (shapeCast g.s2 v g.hdn) bitsLt_bf16_f32)
/-- A sum as it is sent in sixteen bits, and as it is kept. -/
def send16 (l : FVec F g.s2 .f32) : FVec F g.s3 .bf16 := shapeCast g.s3 (truncf .bf16 l bitsLt_bf16_f32) g.hup
def keep (l : FVec F g.s2 .f32) : FVec F g.s2 .f32 := shapeCast g.s2 l g.hid
/-- The scaled sum through the activation. -/
def act (s : F .f32) (l : FVec F g.s2 .f32) : FVec F g.s2 .f32 :=
  mulf (mulf l (broadcast g.s2 s))
    (logistic (minimumf (broadcast g.s2 (Scalar.ofBits .f32 0x42700000#32))
      (maximumf (broadcast g.s2 (Scalar.ofBits .f32 0xC2700000#32)) (mulf l (broadcast g.s2 s)))))

end Group

/-- The three groups. -/
def grp : Fin 3 → Group
  | 0 => ⟨640, 0, ![7, 3, 5, 1], ![6, 2, 4, 0], 0, dot_S512x512_S512x640_S512x640_1_0_0_1_n_n, shapeCasts_S512x640_S1x512x640,
      shapeCasts_S1x512x640_S512x640, shapeCasts_S512x640_S512x640, inb_S512x2048_S512x640_0_0⟩
  | 1 => ⟨640, 640, ![7, 6, 3, 2], ![5, 4, 1, 0], 1, dot_S512x512_S512x640_S512x640_1_0_0_1_n_n, shapeCasts_S512x640_S1x512x640,
      shapeCasts_S1x512x640_S512x640, shapeCasts_S512x640_S512x640, inb_S512x2048_S512x640_0_640⟩
  | 2 => ⟨768, 1280, ![7, 5, 6, 4], ![3, 1, 2, 0], 2, dot_S512x512_S512x768_S512x768_1_0_0_1_n_n, shapeCasts_S512x768_S1x512x768,
      shapeCasts_S1x512x768_S512x768, shapeCasts_S512x768_S512x768, inb_S512x2048_S512x768_0_1280⟩

section Values
variable (I : Ins F)

/-- Row block of device `c`'s `x` at offset `e`, and a group's columns of its weight; -/
def xch (e : Fin 8) (c : Dev nD) : Vec F S512x512 .i8 :=
  ((Memref.whole cc0_stg0_0).access (Rect.unit (s := S4096x512) (k0_off1 c (BitVec.ofNat 32 e.val)) S512x512.size (k0_off1_inb c e))).read (Elt F) (I.x c)
def wch (g : Group) (c : Dev nD) : Vec F g.s2 .i8 := ((Memref.whole cc0_stg1_0).access g.cols).read (Elt F) (I.w c)
/-- the product of the two scales. -/
def scl (c : Dev nD) : F .f32 :=
  Scalar.mulf
    (((Memref.whole cc0_stg2_0).access (Rect.unit (s := S1) ![0] S1.size inb_S1_S1_0)).read (Elt F) (I.a c) (Shape.Idx.first (numel1_S1.symm ▸ Nat.one_pos)))
    (((Memref.whole cc0_stg3_0).access (Rect.unit (s := S1) ![0] S1.size inb_S1_S1_0)).read (Elt F) (I.b c) (Shape.Idx.first (numel1_S1.symm ▸ Nat.one_pos)))

/-- The eight-bit slots `k` of group `g` on device `c`; -/
def s8 (g : Group) (k : Fin 4) (c : Dev nD) : FVec F g.s3 .fp8e4m3 := g.wire (xch I (g.e k) c) (wch I g c)
/-- the own product `k`; -/
def own (g : Group) (k : Fin 4) (c : Dev nD) : FVec F g.s2 .f32 := g.mine (xch I (g.q k) c) (wch I g c)
/-- its sum with the received one; -/
def acc8 (g : Group) (k : Fin 4) (c : Dev nD) : FVec F g.s2 .f32 := g.sum8 (own I g k c) (s8 I g k (pt g.d c))
/-- the sixteen-bit slots `k = 0, 1` of the second exchange; -/
def s4 (g : Group) (k : Fin 4) (c : Dev nD) : FVec F g.s3 .bf16 := g.send16 (acc8 I g k c)
/-- the sums kept for it, `k = 2, 3`; -/
def keep8 (g : Group) (k : Fin 4) (c : Dev nD) : FVec F g.s2 .f32 := g.keep (acc8 I g k c)
/-- the slot of the third exchange; -/
def s6 (g : Group) (c : Dev nD) : FVec F g.s3 .bf16 := g.send16 (g.sum16 (keep8 I g 2 c) (s4 I g 0 (pt (g.d + 1) c)))
/-- the sum kept for it; -/
def keep16 (g : Group) (c : Dev nD) : FVec F g.s2 .f32 := g.keep (g.sum16 (keep8 I g 3 c) (s4 I g 1 (pt (g.d + 1) c)))
/-- and the group's columns of the result. -/
def res (g : Group) (c : Dev nD) : FVec F g.s2 .f32 := g.act (scl I c) (g.sum16 (keep16 I g c) (s6 I g (pt (g.d + 2) c)))

/-- The contents of one slot of channel `k`. -/
abbrev Chan.Val (F : FTy → Type) (k : Chan) : Type := Vec F ⟨3, ![1, 512, k.w]⟩ k.e

set_option backward.proofsInPublic true in
/-- What device `c` sends in copy `n`. -/
def sent (c : Dev nD) : (n : Fin 21) → (chan n).Val F
  | 0 => s8 I (grp 0) 0 c
  | 1 => s8 I (grp 1) 0 c
  | 2 => s8 I (grp 2) 0 c
  | 3 => s8 I (grp 0) 1 c
  | 4 => s8 I (grp 1) 1 c
  | 5 => s8 I (grp 2) 1 c
  | 6 => s8 I (grp 0) 2 c
  | 7 => s8 I (grp 1) 2 c
  | 8 => s8 I (grp 2) 2 c
  | 9 => s8 I (grp 0) 3 c
  | 10 => s8 I (grp 1) 3 c
  | 11 => s8 I (grp 2) 3 c
  | 12 => s4 I (grp 0) 0 c
  | 13 => s4 I (grp 1) 0 c
  | 14 => s4 I (grp 2) 0 c
  | 15 => s4 I (grp 0) 1 c
  | 16 => s4 I (grp 1) 1 c
  | 17 => s4 I (grp 2) 1 c
  | 18 => s6 I (grp 0) c
  | 19 => s6 I (grp 1) c
  | 20 => s6 I (grp 2) c
  | ⟨_ + 21, h⟩ => absurd h (Nat.not_lt.2 (Nat.le_add_left _ _))

end Values

end Cert.Cube
-- ==== Proof.Sums.lean ====
/-
# The exchange kernel's values, 1: what the groups add up

Over the extended reals a change of format is the identity, scaling by `2⁻¹⁵` and back is too, and an eight-bit product of 512
positions is exact. So each group's last sum on device `c` is the sum over the eight devices of their products of row
block `c` and the group's columns, one integer.
-/
module

public import proofs.«01_k».proof.Proof.Contents
public import Idealize.ShloMosaic.Lib.IntMxu
public import Idealize.ShloMosaic.Lib.MatmulPlain
public import Idealize.ShloMosaic.Lib.IdealHost
public import Idealize.ShloMosaic.Lib.ValueIdx
public import Idealize.ShloMosaic.Lib.Pipeline.Value
public import Idealize.ShloMosaic.PureOps.Ideal.Laws

@[expose] public section

noncomputable section

namespace Cert.Cube

open Cert.KernelIdeal Cert.KernelIdeal.Gen
open Idealize.ShloMosaic Idealize.ShloMosaic.ValueIdx
open Idealize.ShloMosaic.TcCoe
open scoped BigOperators

/-! ## Integers among the extended reals -/

/-- An integer as an extended real. -/
def ofZ (z : ℤ) : EReal := ((z : ℝ) : EReal)

theorem ofZ_add (a b : ℤ) : ofZ (a + b) = ofZ a + ofZ b := by
  unfold ofZ; rw [← EReal.coe_add, Int.cast_add]
theorem ofZ_mul (a b : ℤ) : ofZ (a * b) = ofZ a * ofZ b := by
  unfold ofZ; rw [← EReal.coe_mul, Int.cast_mul]
theorem ofZ_sum {ι : Type} (s : Finset ι) (f : ι → ℤ) : ofZ (∑ i ∈ s, f i) = ∑ i ∈ s, ofZ (f i) := by
  classical
  induction s using Finset.induction_on with
  | empty => simp [ofZ]
  | insert a s ha ih => rw [Finset.sum_insert ha, Finset.sum_insert ha, ofZ_add, ih]

/-- The two scales are `2⁻¹⁵` and `2¹⁵`, -/
theorem down_val : Ideal.ofBits .f32 0x38000000#32 = ((1 / 32768 : ℝ) : EReal) := by
  simp [Ideal.ofBits, Ideal.ieee]
  rw [← EReal.coe_mul]; norm_num
theorem up_val : Ideal.ofBits .f32 0x47000000#32 = ((32768 : ℝ) : EReal) := by
  simp [Ideal.ofBits, Ideal.ieee]
  rw [← EReal.coe_mul]; norm_num
/-- and scaling an integer down and up again leaves it. -/
theorem down_up (z : ℤ) : ofZ z * Ideal.ofBits .f32 0x38000000#32 * Ideal.ofBits .f32 0x47000000#32 = ofZ z := by
  rw [down_val, up_val]; unfold ofZ
  rw [← EReal.coe_mul, ← EReal.coe_mul]
  congr 1
  ring

/-! ## The products -/

/-- An eight-bit product at an index is the sum over the contracted coordinate. -/
theorem dot_at {M K N : ℕ} (x : IVec ⟨2, ![M, K]⟩ 8) (y : IVec ⟨2, ![K, N]⟩ 8) (r : Fin M) (s : Fin N) :
    dotI8 (DotDims.plain M K N) x y (ix2 r s) = ∑ k : Fin K, (x (ix2 r k)).toInt * (y (ix2 k s)).toInt := by
  unfold dotI8
  refine Fintype.sum_equiv (DotDims.plainContr M K N) _ _ fun q => ?_
  congr 3
  · funext a; fin_cases a <;> rfl
  · funext a; fin_cases a <;> rfl

/-- Every group's product is a plain one. -/
theorem grp_plain (g : Fin 3) : (grp g).D = DotDims.plain 512 512 (grp g).w := match g with | 0 | 1 | 2 => rfl

/-- The columns of group `g` among all. -/
def col (g : Fin 3) (j : Fin (grp g).w) : Fin 2048 :=
  ⟨(grp g).o + j.val, by have := (grp g).inb 1; have hj := j.isLt; simp at this; omega⟩

theorem row_lt (b : Dev nD) (i : Fin 512) : b.val * 512 + i.val < 4096 := by
  have hb : b.val < 8 := b.isLt
  have hi := i.isLt
  omega

section
variable (I : Ins Ideal)

/-- Device `p`'s `x` and weights, as matrices of eight-bit words; -/
def xs (p : Dev nD) : IVec S4096x512 8 := I.x p
def ws (p : Dev nD) : IVec S512x2048 8 := I.w p
/-- its product of row block `b` and the weights at row `i` and column `j`. -/
def part (p b : Dev nD) (i : Fin 512) (j : Fin 2048) : ℤ :=
  ∑ k : Fin 512, (xs I p (ix2 ⟨b.val * 512 + i.val, row_lt b i⟩ k)).toInt * (ws I p (ix2 k j)).toInt

/-- The row block at offset `e` from device `c`'s own. -/
def blk (e : Fin 8) (c : Dev nD) : Dev nD :=
  ⟨(c.val ^^^ (e.val % 2) ^^^ (e.val / 2 % 2 * 3) ^^^ (e.val / 4 * 4)) % 8, Nat.mod_lt _ (by decide)⟩

theorem off_eq (c : Dev nD) (e : Fin 8) : k0_off1 c (BitVec.ofNat 32 e.val) = ![(blk e c).val * 512, 0] := by
  revert c e; decide +kernel

/-- Where a row block's element is, and a group's column's. -/
theorem xch_at (e : Fin 8) (c : Dev nD) (i k : Fin 512) :
    (xch I e c : IVec S512x512 8) (ix2 i k) = xs I c (ix2 ⟨(blk e c).val * 512 + i.val, row_lt _ _⟩ k) := by
  refine congrArg (xs I c) (funext fun a => Fin.ext ?_)
  have h := congrFun (off_eq c e)
  match a with
  | 0 => have h0 := h 0; show k0_off1 c (BitVec.ofNat 32 e.val) 0 + 1 * i.val = (blk e c).val * 512 + i.val; rw [h0]; simp
  | 1 => have h1 := h 1; show k0_off1 c (BitVec.ofNat 32 e.val) 1 + 1 * k.val = k.val; rw [h1]; simp
theorem wch_at (g : Fin 3) (c : Dev nD) (k : Fin 512) (j : Fin (grp g).w) :
    (wch I (grp g) c : IVec (grp g).s2 8) (ix2 k j) = ws I c (ix2 k (col g j)) := by
  refine congrArg (ws I c) (funext fun a => Fin.ext ?_)
  match a with
  | 0 => show 0 + 1 * k.val = k.val; omega
  | 1 => show (grp g).o + 1 * j.val = (grp g).o + j.val; omega

/-- The product of a row block and a group's columns. -/
theorem mine_at (g : Fin 3) (e : Fin 8) (c : Dev nD) (i : Fin 512) (j : Fin (grp g).w) :
    (grp g).mine (xch I e c) (wch I (grp g) c) (ix2 i j) = ofZ (part I c (blk e c) i (col g j)) := by
  have h : ((grp g).dot (F := Ideal) (xch I e c) (wch I (grp g) c) (ix2 i j)).toInt = part I c (blk e c) i (col g j) := by
    unfold Group.dot
    rw [shapeCast_self, shapeCast_self, grp_plain,
      matmulI8_toInt _ _ _ _ _ _ rfl ((absDotI8_le_numel _ _ _ _).trans (by show 512 * 2 ^ 14 ≤ _; decide)), dot_at]
    unfold part
    exact Finset.sum_congr rfl fun k _ => by rw [xch_at, wch_at]
  show ofZ _ = _
  rw [h]

/-! ## The sums -/

/-- A product sent in eight bits and scaled up again is the product. -/
theorem sum8_at (g : Fin 3) (l : FVec Ideal (grp g).s2 .f32) (e : Fin 8) (p : Dev nD) (i : Fin 512) (j : Fin (grp g).w) :
    (grp g).sum8 l ((grp g).wire (xch I e p) (wch I (grp g) p)) (ix2 i j) =
      l (ix2 i j) + ofZ (part I p (blk e p) i (col g j)) := by
  unfold Group.sum8 Group.wire
  rw [shapeCast_shapeCast]
  refine congrArg (l (ix2 i j) + ·) ?_
  show (grp g).mine (xch I e p) (wch I (grp g) p) (ix2 i j) * Ideal.ofBits .f32 0x38000000#32 * Ideal.ofBits .f32 0x47000000#32 = _
  rw [mine_at, down_up]

/-- A sum sent in sixteen bits is the sum, and so is one kept. -/
theorem sum16_at (g : Fin 3) (l r : FVec Ideal (grp g).s2 .f32) (x : (grp g).s2.Idx) :
    (grp g).sum16 l ((grp g).send16 r) x = l x + r x := by
  unfold Group.sum16 Group.send16
  rw [shapeCast_shapeCast]
  rfl
theorem keep_eq (g : Fin 3) (l : FVec Ideal (grp g).s2 .f32) : (grp g).keep l = l := shapeCast_self _ _

/-- The first sums. -/
theorem acc8_at (g : Fin 3) (k : Fin 4) (c : Dev nD) (i : Fin 512) (j : Fin (grp g).w) :
    acc8 I (grp g) k c (ix2 i j) = ofZ (part I c (blk ((grp g).q k) c) i (col g j)
      + part I (pt (grp g).d c) (blk ((grp g).e k) (pt (grp g).d c)) i (col g j)) := by
  unfold acc8 s8 own
  rw [sum8_at, mine_at, ofZ_add]

/-- The eight devices in the order in which group `g` adds their products on device `c`: its own and its first
    partner's, its second partner's, its third's, and the one across. -/
def turn (g : Fin 3) (c : Dev nD) : Fin 8 → Dev nD :=
  let d := (grp g).d
  ![c, pt d c, pt (d + 1) c, pt d (pt (d + 1) c), pt (d + 2) c, pt d (pt (d + 2) c), pt (d + 1) (pt (d + 2) c),
    pt d (pt (d + 1) (pt (d + 2) c))]
theorem turn_bij (g : Fin 3) (c : Dev nD) : Function.Bijective (turn g c) := by
  revert g c; decide +kernel

/-- The row blocks of the eight products are all `c`. -/
theorem blocks (g : Fin 3) (c : Dev nD) :
    (blk ((grp g).q 3) c = c ∧ blk ((grp g).e 3) (pt (grp g).d c) = c)
    ∧ (blk ((grp g).q 1) (pt ((grp g).d + 1) c) = c ∧ blk ((grp g).e 1) (pt (grp g).d (pt ((grp g).d + 1) c)) = c)
    ∧ (blk ((grp g).q 2) (pt ((grp g).d + 2) c) = c ∧ blk ((grp g).e 2) (pt (grp g).d (pt ((grp g).d + 2) c)) = c)
    ∧ (blk ((grp g).q 0) (pt ((grp g).d + 1) (pt ((grp g).d + 2) c)) = c
      ∧ blk ((grp g).e 0) (pt (grp g).d (pt ((grp g).d + 1) (pt ((grp g).d + 2) c))) = c) := by
  revert g c; decide +kernel

/-- The sum of the eight devices' products of row block `c`. -/
def total (c : Dev nD) (i : Fin 512) (j : Fin 2048) : ℤ := ∑ p : Dev nD, part I p c i j

/-- Each group's last sum is it. -/
theorem last_at (g : Fin 3) (c : Dev nD) (i : Fin 512) (j : Fin (grp g).w) :
    (grp g).sum16 (keep16 I (grp g) c) (s6 I (grp g) (pt ((grp g).d + 2) c)) (ix2 i j) = ofZ (total I c i (col g j)) := by
  obtain ⟨⟨h1, h2⟩, ⟨h3, h4⟩, ⟨h5, h6⟩, h7, h8⟩ := blocks g c
  unfold s6 keep16 s4 keep8
  rw [sum16_at, keep_eq, sum16_at, sum16_at, keep_eq, keep_eq, acc8_at, acc8_at, acc8_at, acc8_at,
    h1, h2, h3, h4, h5, h6, h7, h8, ← ofZ_add, ← ofZ_add, ← ofZ_add]
  unfold total
  rw [← (Equiv.ofBijective _ (turn_bij g c)).sum_comp, Fin.sum_univ_eight]
  refine congrArg ofZ ?_
  show _ = part I c c i (col g j) + part I (pt (grp g).d c) c i (col g j) + part I (pt ((grp g).d + 1) c) c i (col g j)
    + part I (pt (grp g).d (pt ((grp g).d + 1) c)) c i (col g j) + part I (pt ((grp g).d + 2) c) c i (col g j)
    + part I (pt (grp g).d (pt ((grp g).d + 2) c)) c i (col g j)
    + part I (pt ((grp g).d + 1) (pt ((grp g).d + 2) c)) c i (col g j)
    + part I (pt (grp g).d (pt ((grp g).d + 1) (pt ((grp g).d + 2) c))) c i (col g j)
  ring

/-! ## The result -/

/-- The activation of a scaled sum, as the kernel and the reference both compute it over the extended reals. -/
def clip (y : EReal) : EReal := min (Ideal.ofBits .f32 0x42700000#32) (max (Ideal.ofBits .f32 0xC2700000#32) y)
def gate (y : EReal) : EReal := Ideal.div y (1 + Ideal.exp (-clip y))

theorem one_add_exp (x : EReal) : 1 + Ideal.exp x ≠ 0 := by
  have h : 0 ≤ Ideal.exp x := by
    induction x with
    | bot => exact le_refl _
    | top => exact le_top
    | coe r => exact EReal.coe_nonneg.2 (Real.exp_pos r).le
  have h1 : (0 : EReal) < 1 := zero_lt_one
  exact ne_of_gt (lt_of_lt_of_le h1 (le_add_of_nonneg_right h))

/-- The activation at an index; -/
theorem act_at (g : Fin 3) (s : Ideal .f32) (l : FVec Ideal (grp g).s2 .f32) (x : (grp g).s2.Idx) :
    (grp g).act s l x = gate (l x * s) := by
  unfold gate
  rw [← Ideal.mul_one_div (one_add_exp _)]
  rfl

/-- so each group's block of the result is the activation of the whole sum, scaled. -/
theorem res_at (g : Fin 3) (c : Dev nD) (i : Fin 512) (j : Fin (grp g).w) :
    res I (grp g) c (ix2 i j) = gate (ofZ (total I c i (col g j)) * scl I c) := by
  unfold res
  rw [act_at, last_at]

end

end Cert.Cube
-- ==== Proof.State.lean ====
/-
# The exchange kernel's protocol, 3: cells, duties, levels, and the state of a device

Every semaphore the kernel uses is one cell per device, used for one round: the entry barrier and the exit barrier are
paid one unit by each of the three partners, an arrival semaphore by the partner's copy, a departure semaphore by the
device's own copy. A partner's entry unit carries the right to write into that partner's receive slots; an arrival
carries the slot with the partner's contents; a departure gives the send slot back.

`St I c t` is everything device `c` holds at stage `t` of its body, where a stage counts the steps made: signals,
stores, copies started, arrivals, departures.
-/
module

public import proofs.«01_k».proof.Proof.Contents

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Intervals of steps -/

/-- The steps `lo ≤ n < hi` out of `N`. -/
def mid {N : ℕ} (lo hi : ℕ) : Finset (Fin N) := Finset.univ.filter fun n : Fin N => lo ≤ n.val ∧ n.val < hi

theorem mem_mid {N lo hi : ℕ} {n : Fin N} : n ∈ mid lo hi ↔ lo ≤ n.val ∧ n.val < hi := by simp [mid]
theorem mid_all {N : ℕ} : (mid 0 N : Finset (Fin N)) = Finset.univ := Finset.ext fun n => by simp [mem_mid]
theorem mid_self {N k : ℕ} : (mid k k : Finset (Fin N)) = ∅ := Finset.ext fun n => by simp [mem_mid]

/-- The first step taken off an interval, -/
theorem mid_pop {N lo hi : ℕ} (n : Fin N) (h : n.val = lo) (hh : lo < hi) : (mid lo hi : Finset (Fin N)) = insert n (mid (lo + 1) hi) :=
  Finset.ext fun j => by simp only [Finset.mem_insert, mem_mid, Fin.ext_iff]; omega
/-- the next one put on. -/
theorem mid_push {N lo hi : ℕ} (n : Fin N) (h : n.val = hi) (hh : lo ≤ hi) : (mid lo (hi + 1) : Finset (Fin N)) = insert n (mid lo hi) :=
  Finset.ext fun j => by simp only [Finset.mem_insert, mem_mid, Fin.ext_iff]; omega

/-- A family over an interval is its first member and the rest, -/
theorem sep_pop {M : Type} [URA M] {N lo hi : ℕ} (n : Fin N) (h : n.val = lo) (hh : lo < hi) (Φ : Fin N → sProp M) :
    bigSep (mid lo hi) Φ = iprop(Φ n ∗ bigSep (mid (lo + 1) hi) Φ) := by
  rw [mid_pop n h hh, BI.bigSep_insert (fun hm => by have := mem_mid.mp hm; omega)]; rfl
/-- and a next member joins it. -/
theorem sep_push {M : Type} [URA M] {N lo hi : ℕ} (n : Fin N) (h : n.val = hi) (hh : lo ≤ hi) (Φ : Fin N → sProp M) :
    bigSep (mid lo (hi + 1)) Φ = iprop(Φ n ∗ bigSep (mid lo hi) Φ) := by
  rw [mid_push n h hh, BI.bigSep_insert (fun hm => by have := mem_mid.mp hm; omega)]; rfl
/-- A sum over an interval is the sum of the rest and its first member. -/
theorem sum_pop {A : Type} [AddCommMonoid A] {N lo hi : ℕ} (n : Fin N) (h : n.val = lo) (hh : lo < hi) (f : Fin N → A) :
    ∑ j ∈ mid lo hi, f j = ∑ j ∈ mid (lo + 1) hi, f j + f n := by
  rw [mid_pop n h hh, Finset.sum_insert (fun hm => by have := mem_mid.mp hm; omega), add_comm]

/-! ## Pieces of buffers -/

/-- The rectangle `R` of buffer `M` of device `c`, holding `v`; -/
def Piece {s : Shape} {e : EltTy} (M : Memref sig .tc .vmem s e) (R : Rect s) (c : Dev nD) (v : R.shape.Idx → Elt F e) : sProp 𝕄 :=
  iprop(∃ f : Buf (Elt F) ((M.access R).loc (c : Thread nD τ)), ⌜(M.access R).read (Elt F) f = v⌝
    ∗ ((M.access R).loc (c : Thread nD τ) ↦[(M.access R).set]{fullShare} f))
/-- holding anything. -/
def Any {s : Shape} {e : EltTy} (M : Memref sig .tc .vmem s e) (R : Rect s) (c : Dev nD) : sProp 𝕄 :=
  iprop(∃ v : R.shape.Idx → Elt F e, Piece M R c v)

omit [FloatOps F] in
instance piece_storable {s : Shape} {e : EltTy} (M : Memref sig .tc .vmem s e) (R : Rect s) (c : Dev nD) (v : R.shape.Idx → Elt F e) :
    BI.Storable (upEmb : UEmb _ 𝕄) (Piece (F := F) M R c v) := by unfold Piece; infer_instance
omit [FloatOps F] in
instance any_storable {s : Shape} {e : EltTy} (M : Memref sig .tc .vmem s e) (R : Rect s) (c : Dev nD) :
    BI.Storable (upEmb : UEmb _ 𝕄) (Any (F := F) M R c) := by unfold Any; infer_instance
omit [FloatOps F] in
/-- What is known may be forgotten. -/
theorem piece_any {s : Shape} {e : EltTy} (M : Memref sig .tc .vmem s e) (R : Rect s) (c : Dev nD) (v : R.shape.Idx → Elt F e) :
    Piece (F := F) M R c v ⊢ Any (F := F) M R c := by unfold Any; iintro H; iexists v; iexact H

/-! ## The cells -/

/-- The cells of a device: `inl false` the entry barrier, `inl true` the exit barrier, `inr (false, n)` copy `n`'s
    departure, `inr (true, n)` copy `n`'s arrival. -/
abbrev Cell : Type := Bool ⊕ (Bool × Fin 21)

/-- Their semaphores. -/
def csem : Cell → SemLoc sig
  | .inl false => .reg barS
  | .inl true => .reg finS
  | .inr (false, n) => .dma (sS n)
  | .inr (true, n) => .dma (rS n)

theorem csem_injective : Function.Injective csem := by decide +kernel

open Classical in
/-- The cell a semaphore belongs to. -/
def kind (q : SemLoc sig) : Option Cell := if h : ∃ k, csem k = q then some h.choose else none

theorem kind_csem (k : Cell) : kind (csem k) = some k := by
  unfold kind
  have h : ∃ k', csem k' = csem k := ⟨k, rfl⟩
  rw [dif_pos h, csem_injective h.choose_spec]
theorem kind_none {q : SemLoc sig} (h : ∀ k, csem k ≠ q) : kind q = none := by
  unfold kind; exact dif_neg fun ⟨k, hk⟩ => h k hk

abbrev cell (c : Dev nD) (k : Cell) : GSem nD τ sig := ((c : Thread nD τ), csem k)
abbrev bar (c : Dev nD) : GSem nD τ sig := cell c (.inl false)
abbrev fin (c : Dev nD) : GSem nD τ sig := cell c (.inl true)
abbrev snd (n : Fin 21) (c : Dev nD) : GSem nD τ sig := cell c (.inr (false, n))
abbrev rcv (n : Fin 21) (c : Dev nD) : GSem nD τ sig := cell c (.inr (true, n))

/-! ## The duties -/

section Sched
variable (I : Ins F)

/-- Send slot `n` and receive slot `n` of device `c`. -/
abbrev srcAny (n : Fin 21) (c : Dev nD) : sProp 𝕄 := Any (F := F) (chan n).src (chan n).r c
abbrev dstAny (n : Fin 21) (c : Dev nD) : sProp 𝕄 := Any (F := F) (chan n).dst (chan n).r c
abbrev srcHas (n : Fin 21) (c : Dev nD) (v : (chan n).Val F) : sProp 𝕄 := Piece (F := F) (chan n).src (chan n).r c v
abbrev dstHas (n : Fin 21) (c : Dev nD) (v : (chan n).Val F) : sProp 𝕄 := Piece (F := F) (chan n).dst (chan n).r c v

/-- What `pt i c`'s entry unit carries to `c`: the receive slots of `pt i c` that `c` copies into. -/
def entryPay (c : Dev nD) (i : Fin 3) : sProp 𝕄 := bigSep (Finset.univ.filter fun n => dir n = i) fun n => dstAny (F := F) n (pt i c)

/-- What the duties of device `c`'s cell `k` carry. -/
def pay (c : Dev nD) (k : Cell) (d : Fin 3) : sProp 𝕄 :=
  match k with
  | .inl false => entryPay c d
  | .inl true => iprop(emp)
  | .inr (false, n) => srcAny n c
  | .inr (true, n) => dstHas n c (sent I (peer n c) n)

/-- What they pay, -/
def amt : Cell → ℕ
  | .inl _ => 1
  | .inr (_, n) => (chan n).amt
/-- and which they are. -/
def dut : Cell → Finset (Fin 3)
  | .inl _ => Finset.univ
  | .inr _ => {0}

theorem amt_pos (k : Cell) : 0 < amt k := by
  rcases k with _ | ⟨_, n⟩
  · exact Nat.one_pos
  · exact Chan.amt_pos _

instance pay_storable (c : Dev nD) (k : Cell) (d : Fin 3) : BI.Storable (upEmb : UEmb _ 𝕄) (pay I c k d) := by
  rcases k with (_ | _) | ⟨_ | _, n⟩
  · show BI.Storable _ (entryPay c d); unfold entryPay; infer_instance
  · show BI.Storable _ (iprop(emp)); infer_instance
  · show BI.Storable _ (srcAny n c); infer_instance
  · show BI.Storable _ (dstHas n c _); infer_instance

/-- The schedule: round 0 of every cell, nothing later. -/
def Rd : Rounds.Schedule (GSem nD τ sig) (Fin 3) 𝕄 where
  duties g r := if r = 0 ∧ g.1.2 = .tc then (kind g.2).elim ∅ dut else ∅
  unitless _ := False
  amount g _ _ := (kind g.2).elim 1 amt
  payload g _ d := (kind g.2).elim iprop(emp) fun k => pay I g.1.1 k d
  amount_pos g _ _ _ := by
    cases kind g.2 with
    | none => exact Nat.one_pos
    | some k => exact amt_pos k

instance Rd_payload_storable (g : GSem nD τ sig) (r : ℕ) (d : Fin 3) : BI.Storable (upEmb : UEmb _ 𝕄) ((Rd I).payload g r d) := by
  show BI.Storable upEmb ((kind g.2).elim iprop(emp) fun k => pay I g.1.1 k d)
  cases kind g.2 with
  | none => show BI.Storable _ (iprop(emp)); infer_instance
  | some k => show BI.Storable _ (pay I g.1.1 k d); infer_instance

variable (c : Dev nD) (k : Cell)

theorem duties_cell : (Rd I).duties (cell c k) 0 = dut k := by
  dsimp only [Rd]; rw [if_pos ⟨rfl, rfl⟩, kind_csem]; rfl
theorem amount_cell (d : Fin 3) : (Rd I).amount (cell c k) 0 d = amt k := by dsimp only [Rd]; rw [kind_csem]; rfl
theorem payload_cell (d : Fin 3) : (Rd I).payload (cell c k) 0 d = pay I c k d := by dsimp only [Rd]; rw [kind_csem]; rfl
theorem duties_later (g : GSem nD τ sig) : ∀ r, 1 ≤ r → (Rd I).duties g r = ∅ :=
  fun r hr => by dsimp only [Rd]; rw [if_neg fun h => by omega]

theorem expect_bar (b : Bool) : (Rd I).expect (cell c (.inl b)) 0 = 3 := by
  unfold Schedule.expect Schedule.amountOf
  rw [duties_cell, Finset.sum_congr rfl fun d _ => amount_cell I c (.inl b) d]; rfl
theorem expect_copy (b : Bool) (n : Fin 21) : (Rd I).expect (cell c (.inr (b, n))) 0 = (chan n).amt := by
  unfold Schedule.expect Schedule.amountOf
  rw [duties_cell]; exact (Finset.sum_singleton _ _).trans (amount_cell I c _ 0)
/-- All a cell's round carries. -/
theorem rest_cell : bigSep ((Rd I).duties (cell c k) 0 \ ∅) (fun d => (Rd I).payload (cell c k) 0 d) = bigSep (dut k) (pay I c k) := by
  rw [Finset.sdiff_empty, duties_cell]; exact congrArg (bigSep (dut k)) (funext fun d => payload_cell I c k d)

end Sched

/-! ## What a device owes, and the levels -/

/-- Device `c` owes, having made `b` of its entry signals, started `i` of its copies and made `f` of its exit signals. -/
def Owed (c : Dev nD) (b i f : ℕ) : CellTallies nD τ sig Unit :=
  ∑ j ∈ (mid b 3 : Finset (Fin 3)), tallyAt (bar (pt j c)) () 1
    + ∑ n ∈ (mid i 21 : Finset (Fin 21)), tallyAt (rcv n (peer n c)) () (chan n).amt
    + ∑ j ∈ (mid f 3 : Finset (Fin 3)), tallyAt (fin (pt j c)) () 1

theorem owed_bar (c : Dev nD) (i f : ℕ) (j : Fin 3) : Owed c j.val i f = Owed c (j.val + 1) i f + tallyAt (bar (pt j c)) () 1 := by
  unfold Owed; rw [sum_pop j rfl j.isLt, add_right_comm (∑ j ∈ _, _) (tallyAt (bar _) _ _), add_right_comm _ (tallyAt (bar _) _ _)]
theorem owed_start (c : Dev nD) (b f : ℕ) (n : Fin 21) : Owed c b n.val f = Owed c b (n.val + 1) f + tallyAt (rcv n (peer n c)) () (chan n).amt := by
  unfold Owed; rw [sum_pop n rfl n.isLt, ← add_assoc, add_right_comm]
theorem owed_fin (c : Dev nD) (b i : ℕ) (j : Fin 3) : Owed c b i j.val = Owed c b i (j.val + 1) + tallyAt (fin (pt j c)) () 1 := by
  unfold Owed; rw [sum_pop j rfl j.isLt, ← add_assoc]
theorem owed_done (c : Dev nD) : Owed c 3 21 3 = 0 := by unfold Owed; simp only [mid_self, Finset.sum_empty, add_zero]

/-- The levels: departures and the staging copies below everything, then the entry barrier, the arrivals of the three
    exchanges in order, the exit barrier. -/
def clev : Cell → ℕ
  | .inl false => 1
  | .inl true => 5
  | .inr (false, _) => 0
  | .inr (true, n) => if n.val < 12 then 2 else if n.val < 18 then 3 else 4

def L (g : GSem nD τ sig) : Finset Unit := if g.1.2 = .tc then {()} else ∅
def lv (g : GSem nD τ sig) (_ : Unit) : ℕ := (kind g.2).elim 0 clev

theorem L_tc (c : Dev nD) (sm : SemLoc sig) : L ((c : Thread nD τ), sm) = {()} := if_pos rfl
theorem L_of_ne (g : GSem nD τ sig) (h : g.1.2 ≠ .tc) : L g = ∅ := if_neg h
theorem lv_cell (c : Dev nD) (k : Cell) (u : Unit) : lv (cell c k) u = clev k := by unfold lv; rw [kind_csem]; rfl

theorem tally_sum_pos {N : ℕ} {S : Finset (Fin N)} {G : Fin N → GSem nD τ sig} {A : Fin N → ℕ} {g : GSem nD τ sig} {u : Unit}
    (h : 0 < (∑ j ∈ S, tallyAt (G j) () (A j) : CellTallies nD τ sig Unit) g u) : ∃ j ∈ S, g = G j := by
  rw [Finset.sum_apply, Finsupp.finset_sum_apply] at h
  obtain ⟨j, hj, hne⟩ := Finset.exists_ne_zero_of_sum_ne_zero (Nat.pos_iff_ne_zero.mp h)
  refine ⟨j, hj, ?_⟩
  rw [tallyAt_apply] at hne
  by_contra hg
  exact hne (if_neg fun h' => hg h'.1)

/-- Every cell a device owes is one of those. -/
theorem owed_pos {c : Dev nD} {b i f : ℕ} {g : GSem nD τ sig} {u : Unit} (h : 0 < Owed c b i f g u) :
    (∃ j ∈ (mid b 3 : Finset (Fin 3)), g = bar (pt j c)) ∨ (∃ n ∈ (mid i 21 : Finset (Fin 21)), g = rcv n (peer n c))
      ∨ ∃ j ∈ (mid f 3 : Finset (Fin 3)), g = fin (pt j c) := by
  unfold Owed at h
  rw [Pi.add_apply, Finsupp.add_apply, Pi.add_apply, Finsupp.add_apply] at h
  by_cases h1 : 0 < (∑ j ∈ (mid b 3 : Finset (Fin 3)), tallyAt (bar (pt j c)) () 1 : CellTallies nD τ sig Unit) g u
  · exact .inl (tally_sum_pos h1)
  by_cases h2 : 0 < (∑ n ∈ (mid i 21 : Finset (Fin 21)), tallyAt (rcv n (peer n c)) () (chan n).amt : CellTallies nD τ sig Unit) g u
  · exact .inr (.inl (tally_sum_pos h2))
  · rw [Nat.not_lt, Nat.le_zero] at h1 h2
    rw [h1, h2] at h
    exact .inr (.inr (tally_sum_pos (by simpa using h)))

/-- A device may wait on a semaphore below everything it owes. -/
theorem mayWait (c : Dev nD) (sm : SemLoc sig) (ℓ b i f : ℕ) (hℓ : lv ((c : Thread nD τ), sm) () = ℓ) (hb : b < 3 → ℓ < 1)
    (hi : ∀ n : Fin 21, i ≤ n.val → ℓ < clev (.inr (true, n))) (hf : f < 3 → ℓ < 5) :
    (levAts L lv : sProp 𝕄) ⊢ MayWait (c : Thread nD τ) sm () (Owed c b i f) :=
  MayOwe.of_cut (L := L) (lev := lv) ℓ (fun p hp => by rw [Finset.mem_singleton.mp hp, L_tc]; exact Finset.mem_singleton_self _)
    (fun g u hg => by
      rcases owed_pos hg with ⟨j, _, rfl⟩ | ⟨n, _, rfl⟩ | ⟨j, _, rfl⟩ <;> exact (L_tc _ _).symm ▸ Finset.mem_singleton_self _)
    (fun p hp => by rw [Finset.mem_singleton.mp hp]; exact le_of_eq hℓ)
    (fun g u hg => by
      rcases owed_pos hg with ⟨j, hj, rfl⟩ | ⟨n, hn, rfl⟩ | ⟨j, hj, rfl⟩
      · rw [lv_cell]; exact hb (lt_of_le_of_lt (mem_mid.mp hj).1 j.isLt)
      · rw [lv_cell]; exact hi n (mem_mid.mp hn).1
      · rw [lv_cell]; exact hf (lt_of_le_of_lt (mem_mid.mp hj).1 j.isLt))

/-! ## The state of a device -/

/-- Steps made: entry signals (4 once the entry barrier is passed), slots filled, copies started, arrivals, sums kept
    for the second exchange (`k`, `a`), for the third (`m`), result columns stored, departures, exit signals (4 once the
    exit barrier is passed). -/
structure Stage where
  b : ℕ
  s : ℕ
  i : ℕ
  j : ℕ
  k : ℕ
  a : ℕ
  m : ℕ
  o : ℕ
  w : ℕ
  f : ℕ

section State
variable (I : Ins F) (c : Dev nD)

/-- The whole buffers the body only reads, and the three accumulators. -/
abbrev xM : Memref sig .tc .vmem S4096x512 .i8 := Memref.whole cc0_stg0_0
abbrev wM : Memref sig .tc .vmem S512x2048 .i8 := Memref.whole cc0_stg1_0
abbrev aM : Memref sig .tc .smem S1 .f32 := Memref.whole cc0_stg2_0
abbrev bM : Memref sig .tc .smem S1 .f32 := Memref.whole cc0_stg3_0
abbrev oM : Memref sig .tc .vmem S512x2048 .f32 := Memref.whole cc0_stg4_0
abbrev accM : Memref sig .tc .vmem S512x2048 .f32 := Memref.whole cc0_scratch12
abbrev keepM : Memref sig .tc .vmem S512x2048 .f32 := Memref.whole cc0_scratch13

/-- What every device knows: the invariants of all cells, that all have reached round 0, the levels. -/
def Recs : sProp 𝕄 :=
  iprop((∃ K : Dev nD × Cell → ℕ, bigSep Finset.univ fun x : Dev nD × Cell => cellInv ER (Rd I) (K x) (cell x.1 x.2))
    ∗ (bigSep Finset.univ fun x : Dev nD × Cell => reached ER (cell x.1 x.2) 0) ∗ levAts L lv)
instance recs_persistent : BI.Persistent (Recs I) := by unfold Recs; infer_instance

/-- What it owes. -/
def Ow (b i f : ℕ) : sProp 𝕄 := iprop(∃ W, owes (c : Thread nD τ) (Owed c b i f) W)

/-- The inputs. -/
def Inp : sProp 𝕄 :=
  iprop((((c : Thread nD τ).loc cc0_stg0_0) ↦{fullShare} I.x c) ∗ (((c : Thread nD τ).loc cc0_stg1_0) ↦{fullShare} I.w c)
    ∗ (((c : Thread nD τ).loc cc0_stg2_0) ↦{fullShare} I.a c) ∗ (((c : Thread nD τ).loc cc0_stg3_0) ↦{fullShare} I.b c))

/-- The entry barrier: what the signals still to make carry, and the wait. -/
def Bar (b : ℕ) : sProp 𝕄 :=
  if b < 4 then
    iprop((bigSep (mid b 3) fun j : Fin 3 => iprop(dutyTok ER (bar (pt j c)) 0 j ∗ entryPay (F := F) (pt j c) j))
      ∗ atPos ER (bar c) 0 ∅ 0 ∗ cred (tallyAt (bar c) () 3))
  else semVal (bar c) 0

/-- What the copies still to start need: the duties they pay, and, past the entry barrier, the partners' slots. -/
def Tok (b i : ℕ) : sProp 𝕄 :=
  iprop((bigSep (mid i 21) fun n : Fin 21 => iprop(dutyTok ER (snd n c) 0 0 ∗ dutyTok ER (rcv n (peer n c)) 0 0))
    ∗ if b < 4 then iprop(emp) else bigSep (mid i 21) fun n : Fin 21 => dstAny (F := F) n (peer n c))

/-- The send slots not yet filled, and those filled and not yet on their way. -/
def Src (s i : ℕ) : sProp 𝕄 :=
  iprop((bigSep (mid s 21) fun n : Fin 21 => srcAny (F := F) n c) ∗ bigSep (mid i s) fun n : Fin 21 => srcHas n c (sent I c n))

/-- The arrivals still to await, and those had. -/
def Rcv (j : ℕ) : sProp 𝕄 :=
  iprop((bigSep (mid j 21) fun n : Fin 21 => iprop(atPos ER (rcv n c) 0 ∅ 0 ∗ cred (tallyAt (rcv n c) () (chan n).amt)))
    ∗ bigSep (mid 0 j) fun n : Fin 21 => iprop(semVal (rcv n c) 0 ∗ dstHas n c (sent I (peer n c) n)))

/-- The sums kept apart for the second exchange; -/
def Kp (k : ℕ) : sProp 𝕄 :=
  iprop((bigSep (mid k 3) fun g : Fin 3 => Any (F := F) keepM (grp g).cols c)
    ∗ bigSep (mid 0 k) fun g : Fin 3 => Piece (F := F) keepM (grp g).cols c (keep8 I (grp g) 2 c))
/-- the accumulator: free, at the sums of the first exchange, at those of the second; -/
def Ac (a m : ℕ) : sProp 𝕄 :=
  iprop((bigSep (mid a 3) fun g : Fin 3 => Any (F := F) accM (grp g).cols c)
    ∗ (bigSep (mid m a) fun g : Fin 3 => Piece (F := F) accM (grp g).cols c (keep8 I (grp g) 3 c))
    ∗ bigSep (mid 0 m) fun g : Fin 3 => Piece (F := F) accM (grp g).cols c (keep16 I (grp g) c))
/-- the result's columns. -/
def Ot (o : ℕ) : sProp 𝕄 :=
  iprop((bigSep (mid o 3) fun g : Fin 3 => Any (F := F) oM (grp g).cols c)
    ∗ bigSep (mid 0 o) fun g : Fin 3 => Piece (F := F) oM (grp g).cols c (res I (grp g) c))

/-- The departures still to await, those under way, those had. -/
def Dep (i w : ℕ) : sProp 𝕄 :=
  iprop((bigSep (mid w 21) fun n : Fin 21 => atPos ER (snd n c) 0 ∅ 0)
    ∗ (bigSep (mid w i) fun n : Fin 21 => cred (tallyAt (snd n c) () (chan n).amt))
    ∗ bigSep (mid 0 w) fun n : Fin 21 => iprop(semVal (snd n c) 0 ∗ srcAny (F := F) n c))

/-- The exit barrier. -/
def Ex (f : ℕ) : sProp 𝕄 :=
  if f < 4 then
    iprop((bigSep (mid f 3) fun j : Fin 3 => dutyTok ER (fin (pt j c)) 0 j) ∗ atPos ER (fin c) 0 ∅ 0 ∗ cred (tallyAt (fin c) () 3))
  else semVal (fin c) 0

/-- Everything device `c` holds at stage `t`. -/
def St (t : Stage) : sProp 𝕄 :=
  iprop(Recs I ∗ Ow c t.b t.i t.f ∗ Inp I c ∗ Bar c t.b ∗ Tok c t.b t.i ∗ Src I c t.s t.i ∗ Rcv I c t.j
    ∗ Kp I c t.k ∗ Ac I c t.a t.m ∗ Ot I c t.o ∗ Dep c t.i t.w ∗ Ex c t.f)

abbrev 𝒱₀ : Variants := Variants.none

/-- The program `p`, run by device `c` from stage `t`, ends at stage `t'` with a result of which `φ` holds. -/
def Run {α : Type} (t : Stage) (p : Prog (TpuEff nD τ sig (Elt F) Λ₀ .tc) α) (φ : α → Prop) (t' : Stage) : Prop :=
  ∀ Q : α → sProp 𝕄, iprop(St I c t ∗ ∀ a, ⌜φ a⌝ -∗ St I c t' -∗ Q a) ⊢ wp frame (wpE (defs₀ (F := F)) 𝒱₀ (c : Thread nD τ) none) Set.univ p Q

end State

end Cert.Cube
-- ==== Proof.Split.lean ====
/-
# The exchange kernel's launch, 1: whole buffers and their pieces

Each send and receive buffer is its slots; the accumulator, the kept sums and the result are each their three column
groups. A whole buffer is taken apart into such pieces, and pieces, whatever they hold, are put together again.
-/
module

public import proofs.«01_k».proof.Proof.State
public import Idealize.ShloMosaic.Lib.Ring

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Any family of rectangles that cuts a buffer up -/

section Cut
variable {s : Shape} {e : EltTy} {N : ℕ} (R : Fin N → Rect s)

/-- Where a rectangle lies in its buffer. -/
abbrev place (M : Memref sig .tc .vmem s e) (r : Rect s) : Finset M.view.ty.Idx := (M.access r).set

/-- The rectangles are disjoint and together the whole shape. -/
structure Cuts : Prop where
  hd : ∀ t t', t ≠ t' → Disjoint (R t).set (R t').set
  hc : ∀ x : s.Idx, ∃ t, x ∈ (R t).set

variable {R} (h : Cuts R) (M : Memref sig .tc .vmem s e) (c : Dev nD)
include h

theorem Cuts.disjoint : ∀ t t', t ≠ t' → Disjoint (place M (R t)) (place M (R t')) := fun t t' ht => by
  show Disjoint (α := Finset M.view.ty.Idx) (M.view.slice (R t)).set (M.view.slice (R t')).set
  rw [View.set_slice, View.set_slice]; exact (Finset.disjoint_map _).mpr (h.hd t t' ht)
theorem Cuts.cover : M.view.set = (Finset.univ : Finset (Fin N)).biUnion (fun t => place M (R t)) := by
  ext i; constructor
  · intro hi
    rw [View.set, Finset.mem_map] at hi
    obtain ⟨x, -, rfl⟩ := hi
    obtain ⟨t, ht⟩ := h.hc x
    refine Finset.mem_biUnion.mpr ⟨t, Finset.mem_univ _, ?_⟩
    show M.view.emb x ∈ (M.view.slice (R t)).set
    rw [View.set_slice]; exact Finset.mem_map_of_mem _ ht
  · intro hi
    obtain ⟨t, -, hi⟩ := Finset.mem_biUnion.mp hi
    exact View.set_slice_subset _ _ hi

omit [FloatOps F] in
/-- A buffer is its pieces; -/
theorem Cuts.eq (f : M.view.ty.Contents (Elt F)) : (M.view.loc (c : Thread nD τ) ↦[M.view.set]{fullShare} f : sProp 𝕄)
    = bigSep Finset.univ fun t => M.view.loc (c : Thread nD τ) ↦[place M (R t)]{fullShare} f := by
  rw [h.cover M]
  exact pointsTo_biUnion _ _ fun t _ t' _ ht => h.disjoint M t t' ht

omit [FloatOps F] in
/-- taken apart, it is a family of pieces; -/
theorem Cuts.take (f : M.view.ty.Contents (Elt F)) : (M.view.loc (c : Thread nD τ) ↦[M.view.set]{fullShare} f : sProp 𝕄)
    ⊢ bigSep Finset.univ fun t => Any (F := F) M (R t) c := by
  rw [h.eq M c f]
  refine BI.bigSep_mono fun t _ => ?_
  show (M.view.loc (c : Thread nD τ) ↦[place M (R t)]{fullShare} f : sProp 𝕄) ⊢ Any (F := F) M (R t) c
  unfold Any Piece
  iintro H; iexists (M.access (R t)).read (Elt F) f; iexists f
  isplitr; · (ipureintro; rfl)
  iexact H

omit [FloatOps F] in
/-- pieces that hold a buffer's contents, rectangle by rectangle, are that buffer; -/
theorem Cuts.put_at (f : M.view.ty.Contents (Elt F)) :
    bigSep Finset.univ (fun t => Piece (F := F) M (R t) c ((M.access (R t)).read (Elt F) f))
    ⊢ (M.view.loc (c : Thread nD τ) ↦[M.view.set]{fullShare} f : sProp 𝕄) := by
  rw [h.eq M c f]
  refine BI.bigSep_mono fun t _ => ?_
  show Piece (F := F) M (R t) c ((M.access (R t)).read (Elt F) f) ⊢ (M.view.loc (c : Thread nD τ) ↦[place M (R t)]{fullShare} f : sProp 𝕄)
  unfold Piece
  iintro ⟨%g, %hg, H⟩
  iapply (Entails.of_eq (pointsTo_congr (ℓ := M.view.loc (c : Thread nD τ)) (I := place M (R t)) (q := fullShare) (f := g) (g := f) fun i hi => by
    obtain ⟨x, -, rfl⟩ := Finset.mem_map.mp hi
    have := congrFun hg x
    rw [View.read_apply, View.read_apply] at this
    exact (cast_inj _).1 this))
  iexact H

omit [FloatOps F] in
/-- and pieces, whatever they hold, are a buffer holding something. -/
theorem Cuts.put (f₀ : M.view.ty.Contents (Elt F)) : bigSep Finset.univ (fun t => Any (F := F) M (R t) c)
    ⊢ (iprop(∃ f : M.view.ty.Contents (Elt F), M.view.loc (c : Thread nD τ) ↦[M.view.set]{fullShare} f) : sProp 𝕄) := by
  have : Nonempty (M.view.ty.Contents (Elt F)) := ⟨f₀⟩
  refine BI.Entails.trans (BI.bigSep_mono fun t _ => show Any (F := F) M (R t) c
    ⊢ (iprop(∃ f : M.view.ty.Contents (Elt F), M.view.loc (c : Thread nD τ) ↦[place M (R t)]{fullShare} f) : sProp 𝕄) from ?_) ?_
  · unfold Any Piece
    iintro ⟨%v, %f, -, H⟩
    iexists f; iexact H
  refine BI.Entails.trans (BI.bigSep_exists_pi Finset.univ fun t (f : M.view.ty.Contents (Elt F)) =>
    (M.view.loc (c : Thread nD τ) ↦[place M (R t)]{fullShare} f : sProp 𝕄)) ?_
  show (iprop(∃ fs : Fin N → M.view.ty.Contents (Elt F), bigSep Finset.univ fun t => M.view.loc (c : Thread nD τ) ↦[place M (R t)]{fullShare} fs t) : sProp 𝕄)
    ⊢ (iprop(∃ f : M.view.ty.Contents (Elt F), M.view.loc (c : Thread nD τ) ↦[M.view.set]{fullShare} f) : sProp 𝕄)
  iintro ⟨%fs, H⟩
  ihave H := (pointsTo_biUnion_join (ℓ := M.view.loc (c : Thread nD τ)) Finset.univ (fun t => place M (R t)) fs f₀
    fun t _ t' _ ht => h.disjoint M t t' ht) $$ H
  icases H with ⟨%g, -, H⟩
  iexists g
  rw [h.cover M]
  iexact H

omit h [FloatOps F] in
/-- A whole buffer's view is all of it. -/
theorem held_eq (hM : M.view.set = Finset.univ) (f : M.view.ty.Contents (Elt F)) :
    (M.view.loc (c : Thread nD τ) ↦[M.view.set]{fullShare} f : sProp 𝕄) = M.view.loc (c : Thread nD τ) ↦{fullShare} f := by rw [hM]

/-- Buffer `M` of device `c`, holding something. -/
def Held (M : Memref sig .tc .vmem s e) (c : Dev nD) : sProp 𝕄 :=
  iprop(∃ f : M.view.ty.Contents (Elt F), M.view.loc (c : Thread nD τ) ↦{fullShare} f)

omit [FloatOps F] in
theorem Cuts.split (hM : M.view.set = Finset.univ) : Held (F := F) M c ⊢ bigSep Finset.univ fun t => Any (F := F) M (R t) c := by
  unfold Held
  iintro ⟨%f, H⟩
  ihave H := (Entails.of_eq (held_eq M c hM f).symm) $$ H
  iapply (h.take M c f); iexact H
omit [FloatOps F] in
theorem Cuts.join (hM : M.view.set = Finset.univ) (f₀ : M.view.ty.Contents (Elt F)) :
    bigSep Finset.univ (fun t => Any (F := F) M (R t) c) ⊢ Held (F := F) M c := by
  unfold Held
  iintro H
  ihave H := (h.put M c f₀) $$ H
  icases H with ⟨%f, H⟩
  iexists f
  iapply (Entails.of_eq (held_eq M c hM f)); iexact H

end Cut

/-! ## The slots -/

/-- A buffer of `a` slots is its slots. -/
theorem slot_inb (a w : ℕ) (t : Fin a) : ∀ x, (![t.val, 0, 0] : Fin 3 → ℕ) x + (![1, 512, w] : Fin 3 → ℕ) x ≤ (![a, 512, w] : Fin 3 → ℕ) x := by
  intro x
  fin_cases x
  · exact t.isLt
  · exact le_of_eq (Nat.zero_add _)
  · exact le_of_eq (Nat.zero_add _)
abbrev slot (a w : ℕ) (t : Fin a) : Rect ⟨3, ![a, 512, w]⟩ := Rect.unit (s := ⟨3, ![a, 512, w]⟩) ![t.val, 0, 0] ![1, 512, w] (slot_inb a w t)
theorem slots_cut (a w : ℕ) : Cuts (slot a w) where
  hd t t' h := Rect.unit_disjoint (s := ⟨3, ![a, 512, w]⟩) (0 : Fin 3) (by
    show t.val + 1 ≤ t'.val ∨ t'.val + 1 ≤ t.val
    have := Fin.val_ne_of_ne h; omega)
  hc x := ⟨x (0 : Fin 3), Rect.mem_set_unit.mpr fun b => by
    fin_cases b
    · exact ⟨le_rfl, Nat.lt_succ_self _⟩
    · exact ⟨Nat.zero_le _, (x (1 : Fin 3)).isLt.trans_eq (Nat.zero_add _).symm⟩
    · exact ⟨Nat.zero_le _, (x (2 : Fin 3)).isLt.trans_eq (Nat.zero_add _).symm⟩⟩

/-- The 21 copies, group by group: four eight-bit slots each, then three sixteen-bit slots each. -/
theorem by_slots (Φ : Fin 21 → sProp 𝕄) : bigSep Finset.univ Φ
    = iprop((Φ 0 ∗ Φ 3 ∗ Φ 6 ∗ Φ 9) ∗ (Φ 1 ∗ Φ 4 ∗ Φ 7 ∗ Φ 10) ∗ (Φ 2 ∗ Φ 5 ∗ Φ 8 ∗ Φ 11)
      ∗ (Φ 12 ∗ Φ 15 ∗ Φ 18) ∗ (Φ 13 ∗ Φ 16 ∗ Φ 19) ∗ (Φ 14 ∗ Φ 17 ∗ Φ 20)) := by
  rw [bigSep_univ_eq_bigSepL [0, 3, 6, 9, 1, 4, 7, 10, 2, 5, 8, 11, 12, 15, 18, 13, 16, 19, 14, 17, 20] (by decide) (by decide) Φ]
  have h (P Q R : sProp 𝕄) : iprop((P ∗ Q) ∗ R) = iprop(P ∗ Q ∗ R) := equiv_iff.mp ⟨BI.sep_assoc, BI.sep_assoc'⟩
  simp only [h]
  rfl

omit [FloatOps F] in
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem three (Φ : Fin 3 → sProp 𝕄) : bigSep Finset.univ Φ = iprop(Φ 0 ∗ Φ 1 ∗ Φ 2) :=
  bigSep_univ_eq_bigSepL [0, 1, 2] (by decide) (by decide) Φ

section Slots
variable (c : Dev nD)

/-- The six send buffers, and the six receive buffers. -/
def Sends : sProp 𝕄 :=
  iprop(Held (F := F) (.whole cc0_scratch0) c ∗ Held (F := F) (.whole cc0_scratch1) c ∗ Held (F := F) (.whole cc0_scratch2) c
    ∗ Held (F := F) (.whole cc0_scratch6) c ∗ Held (F := F) (.whole cc0_scratch7) c ∗ Held (F := F) (.whole cc0_scratch8) c)
def Receives : sProp 𝕄 :=
  iprop(Held (F := F) (.whole cc0_scratch3) c ∗ Held (F := F) (.whole cc0_scratch4) c ∗ Held (F := F) (.whole cc0_scratch5) c
    ∗ Held (F := F) (.whole cc0_scratch9) c ∗ Held (F := F) (.whole cc0_scratch10) c ∗ Held (F := F) (.whole cc0_scratch11) c)

variable {w : ℕ} {e : EltTy}
omit [FloatOps F] in
/-- A buffer of four slots, and one of three, as chains. -/
theorem split4 (M : Memref sig .tc .vmem ⟨3, ![4, 512, w]⟩ e) (hM : M.view.set = Finset.univ) : Held (F := F) M c
    ⊢ iprop(Any (F := F) M (slot 4 w 0) c ∗ Any (F := F) M (slot 4 w 1) c ∗ Any (F := F) M (slot 4 w 2) c ∗ Any (F := F) M (slot 4 w 3) c) :=
  ((slots_cut 4 w).split M c hM).trans (Entails.of_eq (four _))
omit [FloatOps F] in
theorem split3 (M : Memref sig .tc .vmem ⟨3, ![3, 512, w]⟩ e) (hM : M.view.set = Finset.univ) : Held (F := F) M c
    ⊢ iprop(Any (F := F) M (slot 3 w 0) c ∗ Any (F := F) M (slot 3 w 1) c ∗ Any (F := F) M (slot 3 w 2) c) :=
  ((slots_cut 3 w).split M c hM).trans (Entails.of_eq (three _))
theorem join4 (M : Memref sig .tc .vmem ⟨3, ![4, 512, w]⟩ .fp8e4m3) (hM : M.view.set = Finset.univ) (f₀ : M.view.ty.Contents (Elt F)) :
    iprop(Any (F := F) M (slot 4 w 0) c ∗ Any (F := F) M (slot 4 w 1) c ∗ Any (F := F) M (slot 4 w 2) c ∗ Any (F := F) M (slot 4 w 3) c)
    ⊢ Held (F := F) M c :=
  (Entails.of_eq (four fun t => Any (F := F) M (slot 4 w t) c).symm).trans ((slots_cut 4 w).join M c hM f₀)
theorem join3 (M : Memref sig .tc .vmem ⟨3, ![3, 512, w]⟩ .bf16) (hM : M.view.set = Finset.univ) (f₀ : M.view.ty.Contents (Elt F)) :
    iprop(Any (F := F) M (slot 3 w 0) c ∗ Any (F := F) M (slot 3 w 1) c ∗ Any (F := F) M (slot 3 w 2) c)
    ⊢ Held (F := F) M c :=
  (Entails.of_eq (three fun t => Any (F := F) M (slot 3 w t) c).symm).trans ((slots_cut 3 w).join M c hM f₀)

/-- The send buffers are the 21 send slots, -/
theorem sends_split : Sends (F := F) c ⊢ bigSep Finset.univ fun n : Fin 21 => srcAny (F := F) n c := by
  rw [by_slots]
  exact BI.sep_mono (split4 (w := 640) c (.whole cc0_scratch0) (View.set_whole cc0_scratch0))
    (BI.sep_mono (split4 (w := 640) c (.whole cc0_scratch1) (View.set_whole cc0_scratch1))
    (BI.sep_mono (split4 (w := 768) c (.whole cc0_scratch2) (View.set_whole cc0_scratch2))
    (BI.sep_mono (split3 (w := 640) c (.whole cc0_scratch6) (View.set_whole cc0_scratch6))
    (BI.sep_mono (split3 (w := 640) c (.whole cc0_scratch7) (View.set_whole cc0_scratch7))
    (split3 (w := 768) c (.whole cc0_scratch8) (View.set_whole cc0_scratch8))))))
theorem sends_join : bigSep Finset.univ (fun n : Fin 21 => srcAny (F := F) n c) ⊢ Sends (F := F) c := by
  rw [by_slots]
  exact BI.sep_mono (join4 (w := 640) c (.whole cc0_scratch0) (View.set_whole cc0_scratch0) (fun _ => Scalar.ofBits .fp8e4m3 0))
    (BI.sep_mono (join4 (w := 640) c (.whole cc0_scratch1) (View.set_whole cc0_scratch1) (fun _ => Scalar.ofBits .fp8e4m3 0))
    (BI.sep_mono (join4 (w := 768) c (.whole cc0_scratch2) (View.set_whole cc0_scratch2) (fun _ => Scalar.ofBits .fp8e4m3 0))
    (BI.sep_mono (join3 (w := 640) c (.whole cc0_scratch6) (View.set_whole cc0_scratch6) (fun _ => Scalar.ofBits .bf16 0))
    (BI.sep_mono (join3 (w := 640) c (.whole cc0_scratch7) (View.set_whole cc0_scratch7) (fun _ => Scalar.ofBits .bf16 0))
    (join3 (w := 768) c (.whole cc0_scratch8) (View.set_whole cc0_scratch8) (fun _ => Scalar.ofBits .bf16 0))))))
/-- and the receive buffers the 21 receive slots. -/
theorem receives_split : Receives (F := F) c ⊢ bigSep Finset.univ fun n : Fin 21 => dstAny (F := F) n c := by
  rw [by_slots]
  exact BI.sep_mono (split4 (w := 640) c (.whole cc0_scratch3) (View.set_whole cc0_scratch3))
    (BI.sep_mono (split4 (w := 640) c (.whole cc0_scratch4) (View.set_whole cc0_scratch4))
    (BI.sep_mono (split4 (w := 768) c (.whole cc0_scratch5) (View.set_whole cc0_scratch5))
    (BI.sep_mono (split3 (w := 640) c (.whole cc0_scratch9) (View.set_whole cc0_scratch9))
    (BI.sep_mono (split3 (w := 640) c (.whole cc0_scratch10) (View.set_whole cc0_scratch10))
    (split3 (w := 768) c (.whole cc0_scratch11) (View.set_whole cc0_scratch11))))))
theorem receives_join : bigSep Finset.univ (fun n : Fin 21 => dstAny (F := F) n c) ⊢ Receives (F := F) c := by
  rw [by_slots]
  exact BI.sep_mono (join4 (w := 640) c (.whole cc0_scratch3) (View.set_whole cc0_scratch3) (fun _ => Scalar.ofBits .fp8e4m3 0))
    (BI.sep_mono (join4 (w := 640) c (.whole cc0_scratch4) (View.set_whole cc0_scratch4) (fun _ => Scalar.ofBits .fp8e4m3 0))
    (BI.sep_mono (join4 (w := 768) c (.whole cc0_scratch5) (View.set_whole cc0_scratch5) (fun _ => Scalar.ofBits .fp8e4m3 0))
    (BI.sep_mono (join3 (w := 640) c (.whole cc0_scratch9) (View.set_whole cc0_scratch9) (fun _ => Scalar.ofBits .bf16 0))
    (BI.sep_mono (join3 (w := 640) c (.whole cc0_scratch10) (View.set_whole cc0_scratch10) (fun _ => Scalar.ofBits .bf16 0))
    (join3 (w := 768) c (.whole cc0_scratch11) (View.set_whole cc0_scratch11) (fun _ => Scalar.ofBits .bf16 0))))))

end Slots

/-! ## The column groups -/

theorem cols_cut : Cuts (fun g : Fin 3 => (grp g).cols) where
  hd g g' h := by
    refine Rect.unit_disjoint (s := S512x2048) (1 : Fin 2) ?_
    revert g g' h; decide
  hc x := by
    have h0 : (x (0 : Fin 2)).val < 512 := (x (0 : Fin 2)).isLt
    have h1 : (x (1 : Fin 2)).val < 2048 := (x (1 : Fin 2)).isLt
    by_cases ha : (x (1 : Fin 2)).val < 640
    · refine ⟨0, Rect.mem_set_unit.mpr fun b => ?_⟩
      fin_cases b
      · exact ⟨Nat.zero_le _, h0⟩
      · exact ⟨Nat.zero_le _, ha⟩
    by_cases hb : (x (1 : Fin 2)).val < 1280
    · refine ⟨1, Rect.mem_set_unit.mpr fun b => ?_⟩
      fin_cases b
      · exact ⟨Nat.zero_le _, h0⟩
      · exact ⟨Nat.not_lt.mp ha, hb⟩
    · refine ⟨2, Rect.mem_set_unit.mpr fun b => ?_⟩
      fin_cases b
      · exact ⟨Nat.zero_le _, h0⟩
      · exact ⟨Nat.not_lt.mp hb, h1⟩

/-- The result on device `c`: its three column groups. -/
def outC (I : Ins F) (c : Dev nD) : (cc0_stg4_0 : Ref sig .tc).ty.Contents (Elt F) :=
  (oM.access (grp 2).cols).write (Elt F) ((oM.access (grp 1).cols).write (Elt F) ((oM.access (grp 0).cols).write (Elt F)
    (fun _ => Scalar.ofBits .f32 0) (res I (grp 0) c) Finset.univ) (res I (grp 1) c) Finset.univ) (res I (grp 2) c) Finset.univ

/-- Each group's columns hold the group's values. -/
theorem out_read (I : Ins F) (c : Dev nD) (g : Fin 3) : (oM.access (grp g).cols).read (Elt F) (outC I c) = res I (grp g) c := by
  unfold outC
  have hd (g g' : Fin 3) (h : g ≠ g') : Disjoint (oM.view.slice (grp g).cols).set ((oM.view.slice (grp g').cols).setOn Finset.univ) :=
    cols_cut.disjoint oM g g' h
  match g with
  | 0 => rw [View.read_slice_write_slice_of_disjoint _ _ _ _ _ (hd 0 2 (by decide)), View.read_slice_write_slice_of_disjoint _ _ _ _ _ (hd 0 1 (by decide)), View.read_write_univ]
  | 1 => rw [View.read_slice_write_slice_of_disjoint _ _ _ _ _ (hd 1 2 (by decide)), View.read_write_univ]
  | 2 => rw [View.read_write_univ]

/-- A buffer of the result's shape is its three column groups. -/
theorem cols_split (M : Memref sig .tc .vmem S512x2048 .f32) (hM : M.view.set = Finset.univ) (c : Dev nD) :
    Held (F := F) M c ⊢ bigSep Finset.univ fun g : Fin 3 => Any (F := F) M (grp g).cols c := cols_cut.split M c hM
theorem cols_join (M : Memref sig .tc .vmem S512x2048 .f32) (hM : M.view.set = Finset.univ) (c : Dev nD) (f₀ : M.view.ty.Contents (Elt F)) :
    bigSep Finset.univ (fun g : Fin 3 => Any (F := F) M (grp g).cols c) ⊢ Held (F := F) M c := cols_cut.join M c hM f₀
/-- The result's three column groups are the result. -/
theorem out_join (I : Ins F) (c : Dev nD) : bigSep Finset.univ (fun g : Fin 3 => Piece (F := F) oM (grp g).cols c (res I (grp g) c))
    ⊢ (((c : Thread nD τ).loc cc0_stg4_0) ↦{fullShare} outC I c : sProp 𝕄) := by
  rw [bigSep_congr fun g _ => congrArg (Piece (F := F) oM (grp g).cols c) (out_read I c g).symm]
  exact (cols_cut.put_at oM c (outC I c)).trans (Entails.of_eq (held_eq oM c (View.set_whole _) (outC I c)))

end Cert.Cube
-- ==== Proof.Ghost.lean ====
/-
# The exchange kernel's launch, 2: the cells set up, their tokens dealt out, the credits

At launch every cell is at round 0 with its counter at zero; the token of a duty is minted where the cell is and goes to
the device that pays the duty. A device is credited what the others owe its cells.
-/
module

public import proofs.«01_k».proof.Proof.State

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over cells and over devices -/

/-- The cells one kind after another. -/
theorem by_kind (Φ : Cell → sProp 𝕄) : bigSep Finset.univ Φ
    = iprop((Φ (.inl false) ∗ Φ (.inl true)) ∗ (bigSep Finset.univ fun n => Φ (.inr (false, n))) ∗ bigSep Finset.univ fun n => Φ (.inr (true, n))) := by
  rw [BI.bigSep_univ_sum, BI.bigSep_univ_prod]
  rw [bigSep_univ_eq_bigSepL [false, true] (by decide) (by decide) (fun b => Φ (.inl b)),
    bigSep_univ_eq_bigSepL [false, true] (by decide) (by decide) (fun b : Bool => bigSep Finset.univ fun n => Φ (.inr (b, n)))]
  rfl

/-- One step along permutations of the devices, in every place of a family of devices. -/
def around {N : ℕ} (σ : Fin N → Dev nD ≃ Dev nD) : Dev nD × Fin N ≃ Dev nD × Fin N where
  toFun p := (σ p.2 p.1, p.2)
  invFun p := ((σ p.2).symm p.1, p.2)
  left_inv p := by simp
  right_inv p := by simp
/-- A family over devices and numbers may be dealt out along them. -/
theorem deal {N : ℕ} (σ : Fin N → Dev nD ≃ Dev nD) (Φ : Dev nD → Fin N → sProp 𝕄) :
    (bigSep Finset.univ fun c => bigSep Finset.univ fun j => Φ c j) = bigSep Finset.univ fun c => bigSep Finset.univ fun j => Φ (σ j c) j := by
  rw [← BI.bigSep_univ_prod (fun p : Dev nD × Fin N => Φ p.1 p.2), BI.bigSep_univ_equiv (around σ)]
  exact BI.bigSep_univ_prod (fun p : Dev nD × Fin N => Φ (σ p.2 p.1) p.2)

/-- The partner of a copy, as a permutation of the devices. -/
def swapN (n : Fin 21) : Dev nD ≃ Dev nD := ⟨peer n, peer n, peer_peer n, peer_peer n⟩

/-- Something persistent may be used in every place of a family. -/
theorem with_all {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (Laws.sep_mono_left (BI.bigSep_of_persistent S R)).trans (by rw [← bigSep_sep']; exact bigSep_mono h)

/-! ## The cells and the tokens -/

theorem cell_injective : Function.Injective (fun x : Dev nD × Cell => cell x.1 x.2) := by
  rintro ⟨c, k⟩ ⟨c', k'⟩ h
  have h1 : c = c' := congrArg (fun g : GSem nD τ sig => g.1.1) h
  have h2 : k = k' := csem_injective (congrArg Prod.snd h)
  rw [h1, h2]
theorem cell_eq_iff {c c' : Dev nD} {k k' : Cell} : cell c k = cell c' k' ↔ c = c' ∧ k = k' :=
  ⟨fun h => Prod.mk.inj (cell_injective (a₁ := (c, k)) (a₂ := (c', k')) h), fun h => by rw [h.1, h.2]⟩
def allCells : Finset (GSem nD τ sig) := Finset.univ.map ⟨fun x : Dev nD × Cell => cell x.1 x.2, cell_injective⟩

/-- The duties of a device's cells: three at each barrier, one at each copy's departure and arrival. -/
abbrev Duty : Type := (Bool × Fin 3) ⊕ (Bool × Fin 21)
def dcell : Duty → Cell
  | .inl x => .inl x.1
  | .inr x => .inr x
def dname : Duty → Fin 3
  | .inl x => x.2
  | .inr _ => 0
theorem duty_injective : ∀ d d' : Duty, dcell d = dcell d' → dname d = dname d' → d = d' := by
  rintro (⟨b, j⟩ | x) (⟨b', j'⟩ | x') h h'
  · cases h; cases h'; rfl
  · cases h
  · cases h
  · cases h; rfl
def token (x : Dev nD × Duty) : GSem nD τ sig × ℕ × Fin 3 := (cell x.1 (dcell x.2), 0, dname x.2)
theorem token_injective : Function.Injective token := by
  rintro ⟨c, d⟩ ⟨c', d'⟩ h
  have hc := cell_eq_iff.mp (congrArg Prod.fst h)
  have hd := duty_injective d d' hc.2 (congrArg (fun x : GSem nD τ sig × ℕ × Fin 3 => x.2.2) h)
  have h1 : c = c' := hc.1
  rw [h1, hd]
def allTokens : Finset (GSem nD τ sig × ℕ × Fin 3) := Finset.univ.map ⟨token, token_injective⟩

section Deal
variable (I : Ins F) (c : Dev nD)

/-- The tokens of the duties of device `c`'s own cells, -/
def Minted : sProp 𝕄 :=
  iprop((bigSep Finset.univ fun j : Fin 3 => dutyTok ER (bar c) 0 j) ∗ (bigSep Finset.univ fun j : Fin 3 => dutyTok ER (fin c) 0 j)
    ∗ (bigSep Finset.univ fun n : Fin 21 => dutyTok ER (snd n c) 0 0) ∗ bigSep Finset.univ fun n : Fin 21 => dutyTok ER (rcv n c) 0 0)
/-- and those of the duties it pays. -/
def Dealt : sProp 𝕄 :=
  iprop((bigSep Finset.univ fun j : Fin 3 => dutyTok ER (bar (pt j c)) 0 j) ∗ (bigSep Finset.univ fun j : Fin 3 => dutyTok ER (fin (pt j c)) 0 j)
    ∗ (bigSep Finset.univ fun n : Fin 21 => dutyTok ER (snd n c) 0 0) ∗ bigSep Finset.univ fun n : Fin 21 => dutyTok ER (rcv n (peer n c)) 0 0)

theorem dealt : (bigSep Finset.univ fun c => Minted (F := F) c) = bigSep Finset.univ fun c => Dealt (F := F) c := by
  unfold Minted Dealt
  rw [bigSep_sep', bigSep_sep', bigSep_sep', bigSep_sep', bigSep_sep', bigSep_sep',
    deal swap (fun c j => (dutyTok ER (bar c) 0 j : sProp 𝕄)), deal swap (fun c j => (dutyTok ER (fin c) 0 j : sProp 𝕄)),
    deal swapN (fun c n => (dutyTok ER (rcv n c) 0 0 : sProp 𝕄))]
  rfl

/-- Every cell of device `c` at the start of its round. -/
def Places : sProp 𝕄 := bigSep Finset.univ fun k : Cell => atPos ER (cell c k) 0 ∅ 0

/-- What the launch makes for device `c`, -/
def Given : sProp 𝕄 :=
  iprop((bigSep Finset.univ fun k : Cell => roundState ER (Rd I) (cell c k) 0)
    ∗ (bigSep Finset.univ fun k : Cell => iprop(atPos ER (cell c k) 0 ∅ 0 ∗ reached ER (cell c k) 0)) ∗ Minted (F := F) c)
/-- what every device comes to know, -/
def Known : sProp 𝕄 :=
  iprop((∃ K : Dev nD × Cell → ℕ, bigSep Finset.univ fun x : Dev nD × Cell => cellInv ER (Rd I) (K x) (cell x.1 x.2))
    ∗ bigSep Finset.univ fun x : Dev nD × Cell => reached ER (cell x.1 x.2) 0)
instance known_persistent : BI.Persistent (Known I) := by unfold Known; infer_instance
/-- and what device `c` goes on with. -/
def Ready : sProp 𝕄 := iprop(Known I ∗ Places (F := F) c ∗ Dealt (F := F) c)

/-- The launch makes it, for all devices. -/
theorem fund : BI.own (ER (initOf allCells allTokens)) ⊢ (|==> bigSep Finset.univ (Given I) : sProp 𝕄) := by
  have hX (Φ : GSem nD τ sig → sProp 𝕄) : bigSep allCells Φ = bigSep Finset.univ fun c : Dev nD => bigSep Finset.univ fun k : Cell => Φ (cell c k) := by
    unfold allCells; rw [BI.bigSep_map, BI.bigSep_univ_prod]; rfl
  have hT : bigSep allTokens (fun x => (dutyTok ER x.1 x.2.1 x.2.2 : sProp 𝕄)) = bigSep Finset.univ fun c : Dev nD => Minted (F := F) c := by
    unfold allTokens
    rw [BI.bigSep_map, BI.bigSep_univ_prod]
    refine bigSep_congr fun c _ => ?_
    rw [BI.bigSep_univ_sum, BI.bigSep_univ_prod, BI.bigSep_univ_prod,
      bigSep_univ_eq_bigSepL [false, true] (by decide) (by decide), bigSep_univ_eq_bigSepL [false, true] (by decide) (by decide)]
    have h (P Q R : sProp 𝕄) : iprop((P ∗ Q) ∗ R) = iprop(P ∗ Q ∗ R) := equiv_iff.mp ⟨BI.sep_assoc, BI.sep_assoc'⟩
    exact h _ _ _
  iintro HX
  imod (Rounds.fund ER (Rd I) allCells allTokens) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Given; simp only [bigSep_sep']
  isplitl [Hst']; · iexact Hst'
  isplitl [Hat' Hr']
  · isplitl [Hat'] <;> iassumption
  iexact Htok'

/-! ## The semaphores at zero -/

/-- The kernel's own semaphores: the exit barrier's, then the copies'. -/
abbrev Own : Type := Unit ⊕ (Bool × Fin 21)
def ocell : Own → Cell
  | .inl _ => .inl true
  | .inr x => .inr x
abbrev osem (k : Own) : SemLoc sig := csem (ocell k)
theorem ownSemFacts : Pipeline.OwnSemFacts cfg0.spec osem := by decide +kernel

theorem own_zero : (Pipeline.ownSems0 (Ix := Unit) (Name := ℕ) (U := UU) (Lvl := ℕ) (Val := Elt F) (τ := τ) osem c : sProp 𝕄)
    = iprop(semVal (fin c) 0 ∗ (bigSep Finset.univ fun n : Fin 21 => semVal (snd n c) 0) ∗ bigSep Finset.univ fun n : Fin 21 => semVal (rcv n c) 0) := by
  unfold Pipeline.ownSems0
  rw [BI.bigSep_univ_sum, BI.bigSep_univ_prod, bigSep_univ_eq_bigSepL [()] (by decide) (by decide), bigSep_univ_eq_bigSepL [false, true] (by decide) (by decide)]
  rfl
/-- The entry barrier's semaphore is the launch's one other. -/
theorem other_zero : (unscopedSems0 c : sProp 𝕄) = semVal (bar c) 0 := by
  unfold unscopedSems0; rw [bigSep_eq_bigSepL_of_eq [SemLoc.reg barS] (by decide) (by decide)]; rfl

/-- Together they are device `c`'s cells at zero. -/
theorem zero_cells : iprop(Pipeline.ownSems0 (Ix := Unit) (Name := ℕ) (U := UU) (Lvl := ℕ) (Val := Elt F) (τ := τ) osem c ∗ unscopedSems0 c)
    ⊢ (bigSep Finset.univ fun k : Cell => semVal (cell c k) 0 : sProp 𝕄) := by
  rw [own_zero, other_zero, by_kind]
  iintro ⟨⟨HF, HS, HV⟩, HB⟩
  isplitl [HB HF]
  · isplitl [HB]; · iexact HB
    iexact HF
  isplitl [HS]; · iexact HS
  iexact HV

/-- A device's cells become invariants; -/
theorem alloc : iprop(Pipeline.ownSems0 (Ix := Unit) (Name := ℕ) (U := UU) (Lvl := ℕ) (Val := Elt F) (τ := τ) osem c ∗ unscopedSems0 c ∗ Given I c)
    ⊢ |={Set.univ}=> iprop((bigSep Finset.univ fun k : Cell => iprop(∃ κ : ℕ, cellInv ER (Rd I) κ (cell c k)))
      ∗ (bigSep Finset.univ fun k : Cell => iprop(atPos ER (cell c k) 0 ∅ 0 ∗ reached ER (cell c k) 0)) ∗ Minted (F := F) c) := by
  unfold Given
  iintro ⟨Hos, Hus, Hst, Hat, Htok⟩
  ihave Hv := (zero_cells (F := F) c) $$ [Hos Hus]
  · isplitl [Hos] <;> iassumption
  imod (show iprop((bigSep Finset.univ fun k : Cell => semVal (cell c k) 0) ∗ bigSep Finset.univ fun k : Cell => roundState ER (Rd I) (cell c k) 0)
      ⊢ (|={Set.univ}=> bigSep Finset.univ fun k : Cell => iprop(∃ κ : ℕ, cellInv ER (Rd I) κ (cell c k)) : sProp 𝕄) from by
        rw [← bigSep_sep']
        exact (bigSep_mono fun k _ => (Rounds.body_intro ER (Rd I) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- and all devices' together what each of them starts from. -/
theorem regroup :
    (bigSep Finset.univ fun c : Dev nD => iprop((bigSep Finset.univ fun k : Cell => iprop(∃ κ : ℕ, cellInv ER (Rd I) κ (cell c k)))
      ∗ (bigSep Finset.univ fun k : Cell => iprop(atPos ER (cell c k) 0 ∅ 0 ∗ reached ER (cell c k) 0)) ∗ Minted (F := F) c) : sProp 𝕄)
    ⊢ bigSep Finset.univ (Ready I) := by
  rw [bigSep_sep', bigSep_sep', ← BI.bigSep_univ_prod (fun x : Dev nD × Cell => iprop(∃ κ : ℕ, cellInv ER (Rd I) κ (cell x.1 x.2))),
    bigSep_congr (s := Finset.univ) (fun (c : Dev nD) _ => bigSep_sep' Finset.univ (fun k : Cell => (atPos ER (cell c k) 0 ∅ 0 : sProp 𝕄)) (fun k => reached ER (cell c k) 0)),
    bigSep_sep', ← BI.bigSep_univ_prod (fun x : Dev nD × Cell => (reached ER (cell x.1 x.2) 0 : sProp 𝕄)), dealt]
  iintro ⟨HI, ⟨Hat, #HR⟩, Htok⟩
  ihave HK := (BI.bigSep_exists_pi Finset.univ (fun (x : Dev nD × Cell) (κ : ℕ) => (cellInv ER (Rd I) κ (cell x.1 x.2) : sProp 𝕄))) $$ HI
  icases HK with ⟨%K, #HI⟩
  iapply (with_all (R := Known I) (Φ := fun c => iprop(Places (F := F) c ∗ Dealt (F := F) c)) fun c _ => show iprop(Known I ∗ Places (F := F) c ∗ Dealt (F := F) c) ⊢ Ready I c from
    Entails.of_eq (by unfold Ready; rfl))
  isplitr
  · unfold Known; isplitl
    · iexists K; iexact HI
    iexact HR
  rw [bigSep_sep']
  isplitl [Hat]
  · unfold Places; iexact Hat
  iexact Htok

/-- The launch's one step over all devices. -/
theorem glob : (bigSep Finset.univ fun c => iprop(Pipeline.ownSems0 (Ix := Unit) (Name := ℕ) (U := UU) (Lvl := ℕ) (Val := Elt F) (τ := τ) osem c ∗ unscopedSems0 c ∗ Given I c) : sProp 𝕄)
    ⊢ |={Set.univ}=> bigSep Finset.univ (Ready I) :=
  ((bigSep_mono fun c _ => alloc I c).trans (bigSep_fupd _ _)).trans (BI.fupd_mono (regroup I))

end Deal

/-! ## The credits -/

/-- What the devices owe a cell, over a family of debts that goes to different devices. -/
theorem owe_sum {N : ℕ} (σ : Fin N → Dev nD ≃ Dev nD) (κ : Fin N → Cell) (A : Fin N → ℕ) (c : Dev nD) (k : Cell) :
    ∑ d : Dev nD, (∑ j : Fin N, tallyAt (cell (σ j d) (κ j)) () (A j) : CellTallies nD τ sig Unit) (cell c k) ()
      = ∑ j : Fin N, if κ j = k then A j else 0 := by
  have h (d : Dev nD) : (∑ j : Fin N, tallyAt (cell (σ j d) (κ j)) () (A j) : CellTallies nD τ sig Unit) (cell c k) ()
      = ∑ j : Fin N, tallyAt (cell (σ j d) (κ j)) () (A j) (cell c k) () := by rw [Finset.sum_apply, Finsupp.finset_sum_apply]
  rw [Finset.sum_congr rfl fun d _ => h d, Finset.sum_comm]
  refine Finset.sum_congr rfl fun j _ => ?_
  rw [Equiv.sum_comp (σ j) fun d => (tallyAt (cell d (κ j)) () (A j) : CellTallies nD τ sig Unit) (cell c k) ()]
  rw [Finset.sum_congr rfl fun d _ => show (tallyAt (cell d (κ j)) () (A j) : CellTallies nD τ sig Unit) (cell c k) ()
      = if d = c then (if κ j = k then A j else 0) else 0 from by
    rw [tallyAt_apply]
    by_cases hd : d = c
    · by_cases hk : κ j = k
      · rw [if_pos ⟨by rw [hd, hk], rfl⟩, if_pos hd, if_pos hk]
      · rw [if_neg fun h => hk (cell_eq_iff.mp h.1).2.symm, if_pos hd, if_neg hk]
    · rw [if_neg fun h => hd (cell_eq_iff.mp h.1).1.symm, if_neg hd]]
  rw [Finset.sum_ite_eq' Finset.univ c fun _ => if κ j = k then A j else 0, if_pos (Finset.mem_univ _)]

/-- What a cell is owed altogether: three units at each barrier, the copy's size at each arrival. -/
def due : Cell → ℕ
  | .inl _ => 3
  | .inr (false, _) => 0
  | .inr (true, n) => (chan n).amt

theorem owed_all (c : Dev nD) (k : Cell) : ∑ d : Dev nD, Owed d 0 0 0 (cell c k) () = due k := by
  unfold Owed
  simp only [mid_all]
  have h (d : Dev nD) (A B C : CellTallies nD τ sig Unit) : (A + B + C) (cell c k) () = A (cell c k) () + B (cell c k) () + C (cell c k) () := rfl
  rw [Finset.sum_congr rfl fun d _ => h d _ _ _, Finset.sum_add_distrib, Finset.sum_add_distrib]
  have h1 := owe_sum swap (fun _ => .inl false) (fun _ => 1) c k
  have h2 := owe_sum swapN (fun n => .inr (true, n)) (fun n => (chan n).amt) c k
  have h3 := owe_sum swap (fun _ => .inl true) (fun _ => 1) c k
  refine (congrArg₂ (· + ·) (congrArg₂ (· + ·) h1 h2) h3).trans ?_
  rcases k with (_ | _) | ⟨_ | _, n⟩ <;> simp [due]

/-- So device `c` is credited three units at each of its barriers and every arrival. -/
theorem creds (c : Dev nD) : (Pipeline.launchCred (fun d => Owed d 0 0 0) c : sProp 𝕄)
    ⊢ iprop((cred (tallyAt (bar c) () 3) ∗ cred (tallyAt (fin c) () 3)) ∗ bigSep Finset.univ fun n : Fin 21 => cred (tallyAt (rcv n c) () (chan n).amt)) := by
  have hk (k : Cell) : tallyOn (cell c k) (launchCredit (Pipeline.owing fun d => Owed d 0 0 0) 0 (cell c k))
      = (tallyAt (cell c k) () (due k) : CellTallies nD τ sig Unit) := by
    unfold tallyAt; refine congrArg _ (Finsupp.ext fun u => ?_); cases u
    rw [Pipeline.launchCredit_owing, Finsupp.single_eq_same, owed_all]
  unfold Pipeline.launchCred
  refine (BI.bigSep_subset (Finset.subset_univ (Finset.univ.map ⟨csem, csem_injective⟩))).trans ?_
  rw [BI.bigSep_map]
  refine (Entails.of_eq (bigSep_congr fun k _ => show _ = (cred (tallyAt (cell c k) () (due k)) : sProp 𝕄) from congrArg cred (hk k))).trans ?_
  rw [by_kind]
  iintro ⟨H, -, HV⟩
  isplitl [H]; · iexact H
  iexact HV

end Cert.Cube
-- ==== Proof.Bufs.lean ====
/-
# The exchange kernel's protocol: the buffers its body runs on
-/
module

public import proofs.«01_k».proof.Proof.State

@[expose] public section

noncomputable section

namespace Cert.Cube

open Cert.KernelIdeal Cert.KernelIdeal.Gen
open Idealize.ShloMosaic

/-- `f` at the kernel's buffers and semaphores. -/
abbrev on {β : Type 1} (f : (arg0 : Memref sig .tc .vmem S4096x512 .i8) → arg0.IsWhole → (arg1 : Memref sig .tc .vmem S512x2048 .i8) → arg1.IsWhole →
    (arg2 : Memref sig .tc .smem S1 .f32) → arg2.IsWhole → (arg3 : Memref sig .tc .smem S1 .f32) → arg3.IsWhole →
    (arg4 : Memref sig .tc .vmem S512x2048 .f32) → arg4.IsWhole → (arg5 : Memref sig .tc .vmem S4x512x640 .fp8e4m3) → arg5.IsWhole →
    (arg6 : Memref sig .tc .vmem S4x512x640 .fp8e4m3) → arg6.IsWhole → (arg7 : Memref sig .tc .vmem S4x512x768 .fp8e4m3) → arg7.IsWhole →
    (arg8 : Memref sig .tc .vmem S4x512x640 .fp8e4m3) → arg8.IsWhole → (arg9 : Memref sig .tc .vmem S4x512x640 .fp8e4m3) → arg9.IsWhole →
    (arg10 : Memref sig .tc .vmem S4x512x768 .fp8e4m3) → arg10.IsWhole → (arg11 : Memref sig .tc .vmem S3x512x640 .bf16) → arg11.IsWhole →
    (arg12 : Memref sig .tc .vmem S3x512x640 .bf16) → arg12.IsWhole → (arg13 : Memref sig .tc .vmem S3x512x768 .bf16) → arg13.IsWhole →
    (arg14 : Memref sig .tc .vmem S3x512x640 .bf16) → arg14.IsWhole → (arg15 : Memref sig .tc .vmem S3x512x640 .bf16) → arg15.IsWhole →
    (arg16 : Memref sig .tc .vmem S3x512x768 .bf16) → arg16.IsWhole → (arg17 : Memref sig .tc .vmem S512x2048 .f32) → arg17.IsWhole →
    (arg18 : Memref sig .tc .vmem S512x2048 .f32) → arg18.IsWhole → (arg19 : DmaSems sig S3x7) → (arg20 : DmaSems sig S3x7) → (r0 : Sems sig S_) → β) : β :=
  f (.whole cc0_stg0_0) (Memref.isWhole_whole _) (.whole cc0_stg1_0) (Memref.isWhole_whole _) (.whole cc0_stg2_0) (Memref.isWhole_whole _)
    (.whole cc0_stg3_0) (Memref.isWhole_whole _) (.whole cc0_stg4_0) (Memref.isWhole_whole _) (.whole cc0_scratch0) (Memref.isWhole_whole _)
    (.whole cc0_scratch1) (Memref.isWhole_whole _) (.whole cc0_scratch2) (Memref.isWhole_whole _) (.whole cc0_scratch3) (Memref.isWhole_whole _)
    (.whole cc0_scratch4) (Memref.isWhole_whole _) (.whole cc0_scratch5) (Memref.isWhole_whole _) (.whole cc0_scratch6) (Memref.isWhole_whole _)
    (.whole cc0_scratch7) (Memref.isWhole_whole _) (.whole cc0_scratch8) (Memref.isWhole_whole _) (.whole cc0_scratch9) (Memref.isWhole_whole _)
    (.whole cc0_scratch10) (Memref.isWhole_whole _) (.whole cc0_scratch11) (Memref.isWhole_whole _) (.whole cc0_scratch12) (Memref.isWhole_whole _)
    (.whole cc0_scratch13) (Memref.isWhole_whole _) cc0_scratch14 cc0_scratch15 cc0_scoped0

end Cert.Cube
-- ==== Proof.Ops.lean ====
/-
# The exchange kernel's protocol, 4: one step of a device, for each operation of the body
-/
module

public import proofs.«01_k».proof.Proof.Bufs

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Op" => TpuEff nD τ sig (Elt F) Λ₀ Proc.tc

section Base
variable (c : Dev nD) {α : Type}

/-- The weakest precondition of a program of device `c`. -/
abbrev WP (p : Prog Op α) (Q : α → sProp 𝕄) : sProp 𝕄 := wp frame (wpE (defs₀ (F := F)) 𝒱₀ (c : Thread nD τ) none) Set.univ p Q

/-- A load of a piece continues with what it holds; -/
theorem wp_load_piece {s : Shape} {e : EltTy} {M : Memref sig .tc .vmem s e} {R : Rect s} {hl : M.view.LoadsAt R}
    {k : (R.shape.Idx → Elt F e) → Prog Op α} {Q : α → sProp 𝕄} {v : R.shape.Idx → Elt F e} :
    Piece (F := F) M R c v ⊢ iprop((Piece M R c v -∗ WP c (k v) Q) -∗ WP c (.op (.load M R.toLoadRect hl) k) Q) := by
  unfold Piece
  iintro ⟨%f, %hf, H⟩ Hk
  subst hf
  iapply (wp_load_rect 𝒱₀ (c : Thread nD τ) none Set.univ (m := M) (r := R) (Finset.Subset.refl _)) $$ H
  iintro H
  iapply Hk
  iexists f
  isplitr; · (ipureintro; rfl)
  iexact H

/-- a store into it leaves what was stored. -/
theorem wp_store_piece {s : Shape} {e : EltTy} {M : Memref sig .tc .vmem s e} {R : Rect s} {w : R.shape.Idx → Elt F e}
    {hx : (M.access R).Stores Finset.univ} {hm : (Finset.univ : Finset R.shape.Idx) = Finset.univ ∨ ∀ a, R.stride a = 1}
    {k : PUnit → Prog Op α} {Q : α → sProp 𝕄} :
    Any (F := F) M R c ⊢ iprop((Piece M R c w -∗ WP c (k ⟨⟩) Q) -∗ WP c (.op (.store M R w Finset.univ hx hm) k) Q) := by
  unfold Any Piece
  iintro ⟨%v, %f, %hf, H⟩ Hk
  iapply (wp_store 𝒱₀ (c : Thread nD τ) none Set.univ (m := M) (r := R) (Mk := Finset.univ)
    (show (M.access R).setOn Finset.univ ⊆ (M.access R).set from Finset.Subset.refl _)) $$ H
  iintro H
  iapply Hk
  iexists _
  isplitr; swap; · iexact H
  ipureintro; exact View.read_write_univ _ _

end Base

/-- One member of a family, and the rest. -/
theorem sep_take {M : Type} [URA M] {J : Type} [DecidableEq J] {S : Finset J} (i : J) (hi : i ∈ S) (Φ : J → sProp M) :
    bigSep S Φ = iprop(Φ i ∗ bigSep (S.erase i) Φ) := BI.bigSep_erase hi

theorem sep_elim {M : Type} [URA M] {J : Type} [DecidableEq J] {S : Finset J} {i : J} {Φ : J → sProp M} (hi : i ∈ S) : bigSep S Φ ⊢ Φ i := by
  rw [sep_take i hi]; iintro ⟨H, -⟩; iexact H

/-- A part of a part. -/
theorem via {M : Type} [URA M] {A B C A' B' C' : sProp M} (h : A ⊢ iprop(B ∗ (B' -∗ A'))) (h' : B ⊢ iprop(C ∗ (C' -∗ B'))) : A ⊢ iprop(C ∗ (C' -∗ A')) := by
  iintro HA
  ihave H := h $$ HA
  icases H with ⟨HB, Hb⟩
  ihave H := h' $$ HB
  icases H with ⟨HC, Hc⟩
  isplitl [HC]; · iexact HC
  iintro HC
  iapply Hb; iapply Hc; iexact HC

/-- A member of a family, to be put back; -/
theorem fam_take {M : Type} [URA M] {J : Type} [DecidableEq J] {S : Finset J} (i : J) (hi : i ∈ S) (Φ : J → sProp M) :
    bigSep S Φ ⊢ iprop(Φ i ∗ (Φ i -∗ bigSep S Φ)) := by
  rw [sep_take i hi]
  iintro ⟨H, Hr⟩
  isplitl [H]; · iexact H
  iintro H
  isplitl [H] <;> iassumption

/-- a member of one family, to be put into the next. -/
theorem fam_move {M : Type} [URA M] {N k m : ℕ} (n : Fin N) (h : n.val = k) (hm : m ≤ k) (Φ Ψ : Fin N → sProp M) :
    iprop(bigSep (mid k N) Φ ∗ bigSep (mid m k) Ψ) ⊢ iprop(Φ n ∗ (Ψ n -∗ iprop(bigSep (mid (k + 1) N) Φ ∗ bigSep (mid m (k + 1)) Ψ))) := by
  rw [sep_pop n h (h ▸ n.isLt) Φ, sep_push n h hm Ψ]
  iintro ⟨⟨H, Hr⟩, Hs⟩
  isplitl [H]; · iexact H
  iintro H
  iframe H Hr Hs

section Recs
variable (I : Ins F)

/-- A cell's invariant, its mark and the levels out of the common knowledge. -/
theorem recs_inv (c : Dev nD) (k : Cell) : Recs I ⊢ iprop(∃ κ : ℕ, cellInv ER (Rd I) κ (cell c k)) := by
  unfold Recs
  iintro ⟨⟨%K, H⟩, -, -⟩
  iexists (K (c, k))
  iapply (sep_elim (Φ := fun x : Dev nD × Cell => cellInv ER (Rd I) (K x) (cell x.1 x.2)) (Finset.mem_univ (c, k)))
  iexact H
theorem recs_reached (c : Dev nD) (k : Cell) : Recs I ⊢ reached ER (cell c k) 0 := by
  unfold Recs
  iintro ⟨-, H, -⟩
  iapply (sep_elim (Φ := fun x : Dev nD × Cell => (reached ER (cell x.1 x.2) 0 : sProp 𝕄)) (Finset.mem_univ (c, k)))
  iexact H
theorem recs_lev : Recs I ⊢ (levAts L lv : sProp 𝕄) := by
  unfold Recs
  iintro ⟨-, -, H⟩
  iexact H

end Recs

section Slot

/-- Reading through a reshaped view. -/
theorem read_reshape {sp : Space} {s s' : Shape} {e : EltTy} (v : View sig .tc sp s e) (h : s'.numel = s.numel) (f : v.ty.Contents (Elt F)) (y : s'.Idx) :
    (v.reshape s' h).read (Elt F) f y = v.read (Elt F) f (Shape.reshapeEquiv h y) := rfl

/-- Contents copied between two slots through one reshape: what the source slot reads is what the destination slot reads
    after it. -/
theorem copied {sp sp' : Space} {s s' : Shape} {e : EltTy} (v : View sig .tc sp s e) (v' : View sig .tc sp' s e) (h : s'.numel = s.numel)
    (fs : v.ty.Contents (Elt F)) (fd : v'.ty.Contents (Elt F)) :
    v'.read (Elt F) ((v'.reshape s' h).write (Elt F) fd ((v.reshape s' h).read (Elt F) fs) Finset.univ) = v.read (Elt F) fs := by
  have hw : (v'.reshape s' h).read (Elt F) ((v'.reshape s' h).write (Elt F) fd ((v.reshape s' h).read (Elt F) fs) Finset.univ) = (v.reshape s' h).read (Elt F) fs :=
    View.read_write_univ _ _
  funext x
  obtain ⟨y, rfl⟩ := (Shape.reshapeEquiv h).surjective x
  rw [← read_reshape v h]
  exact congrFun hw y

end Slot

section Steps
variable (I : Ins F) (c : Dev nD) {α : Type} {t t1 t' : Stage} {φ : α → Prop}

/-- One operation that returns nothing, then the rest; -/
theorem Run.step {op : Op PUnit} {k : PUnit → Prog Op α}
    (h : ∀ Q : α → sProp 𝕄, St I c t ⊢ iprop((St I c t1 -∗ WP c (k ⟨⟩) Q) -∗ WP c (.op op k) Q)) (hk : Run I c t1 (k ⟨⟩) φ t') :
    Run I c t (.op op k) φ t' := by
  intro Q
  iintro ⟨HS, HQ⟩
  iapply (h Q) $$ HS
  iintro HS
  iapply (hk Q)
  isplitl [HS]; · iexact HS
  iexact HQ

/-- nothing left to do; -/
theorem Run.ret {a : α} (h : φ a) : Run I c t (.ret a) φ t := by
  intro Q
  iintro ⟨HS, HQ⟩
  rw [wp_ret]; imodintro
  iapply HQ
  · ipureintro; exact h
  iexact HS

/-- a program, then another on its result. -/
theorem Run.bind {β : Type} {p : Prog Op β} {k : β → Prog Op α} {ψ : β → Prop} (hp : Run I c t p ψ t1) (hk : ∀ b, ψ b → Run I c t1 (k b) φ t') :
    Run I c t (p >>= k) φ t' := by
  intro Q
  iintro ⟨HS, HQ⟩
  rw [wp_bind]
  iapply (hp _)
  isplitl [HS]; · iexact HS
  iintro %b %hb HS
  iapply (hk b hb Q)
  isplitl [HS]; · iexact HS
  iexact HQ

/-- The device's own number. -/
theorem Run.device {k : Dev nD → Prog Op α} (hk : Run I c t (k c) φ t') : Run I c t (.op .deviceId k) φ t' := by
  intro Q
  rw [wp_deviceId]
  exact hk Q

/-- A load of a piece the state holds, -/
theorem Run.load {s : Shape} {e : EltTy} {M : Memref sig .tc .vmem s e} {R : Rect s} {hl : M.view.LoadsAt R}
    {k : (R.shape.Idx → Elt F e) → Prog Op α} {v : R.shape.Idx → Elt F e}
    (h : St I c t ⊢ iprop(Piece M R c v ∗ (Piece M R c v -∗ St I c t))) (hk : Run I c t (k v) φ t') :
    Run I c t (.op (.load M R.toLoadRect hl) k) φ t' := by
  intro Q
  iintro ⟨HS, HQ⟩
  ihave H := h $$ HS
  icases H with ⟨HP, Hback⟩
  iapply (wp_load_piece c) $$ HP
  iintro HP
  iapply (hk Q)
  isplitl [HP Hback]; · iapply Hback; iexact HP
  iexact HQ

/-- of a piece at contents not known, -/
theorem Run.peek {s : Shape} {e : EltTy} {M : Memref sig .tc .vmem s e} {R : Rect s} {hl : M.view.LoadsAt R}
    {k : (R.shape.Idx → Elt F e) → Prog Op α}
    (h : St I c t ⊢ iprop(Any M R c ∗ (Any M R c -∗ St I c t))) (hk : ∀ v, Run I c t (k v) φ t') :
    Run I c t (.op (.load M R.toLoadRect hl) k) φ t' := by
  intro Q
  iintro ⟨HS, HQ⟩
  ihave H := h $$ HS
  unfold Any
  icases H with ⟨⟨%v, HP⟩, Hback⟩
  iapply (wp_load_piece c) $$ HP
  iintro HP
  iapply (hk v Q)
  isplitl [HP Hback]; · iapply Hback; iexists v; iexact HP
  iexact HQ

/-- and a store into one. -/
theorem Run.store {s : Shape} {e : EltTy} {M : Memref sig .tc .vmem s e} {R : Rect s} {w : R.shape.Idx → Elt F e}
    {hx : (M.access R).Stores Finset.univ} {hm : (Finset.univ : Finset R.shape.Idx) = Finset.univ ∨ ∀ a, R.stride a = 1} {k : PUnit → Prog Op α}
    (h : St I c t ⊢ iprop(Any M R c ∗ (Piece M R c w -∗ St I c t1))) (hk : Run I c t1 (k ⟨⟩) φ t') :
    Run I c t (.op (.store M R w Finset.univ hx hm) k) φ t' := by
  intro Q
  iintro ⟨HS, HQ⟩
  ihave H := h $$ HS
  icases H with ⟨HP, Hback⟩
  iapply (wp_store_piece c) $$ HP
  iintro HP
  iapply (hk Q)
  isplitl [HP Hback]; · iapply Hback; iexact HP
  iexact HQ

/-! ### The parts of the state -/

/-- The inputs apart; -/
theorem st_inp : St I c t ⊢ iprop(Inp I c ∗ (Inp I c -∗ St I c t)) := by
  unfold St
  iintro ⟨#HR, Ho, Hi, Hb, Ht, Hs, Hr, Hk, Ha, Hu, Hd, He⟩
  isplitl [Hi]; · iexact Hi
  iintro Hi
  iframe HR Ho Hi Hb Ht Hs Hr Hk Ha Hu Hd He

/-- the kept sums apart; -/
theorem st_kp {k' : ℕ} : St I c t ⊢ iprop(Kp I c t.k ∗ (Kp I c k' -∗ St I c { t with k := k' })) := by
  unfold St
  iintro ⟨#HR, Ho, Hi, Hb, Ht, Hs, Hr, Hk, Ha, Hu, Hd, He⟩
  isplitl [Hk]; · iexact Hk
  iintro Hk
  iframe HR Ho Hi Hb Ht Hs Hr Hk Ha Hu Hd He

/-- the send slots apart; -/
theorem st_src {s' : ℕ} : St I c t ⊢ iprop(Src I c t.s t.i ∗ (Src I c s' t.i -∗ St I c { t with s := s' })) := by
  unfold St
  iintro ⟨#HR, Ho, Hi, Hb, Ht, Hs, Hr, Hk, Ha, Hu, Hd, He⟩
  isplitl [Hs]; · iexact Hs
  iintro Hs
  iframe HR Ho Hi Hb Ht Hs Hr Hk Ha Hu Hd He

/-- the receive slots apart; -/
theorem st_rcv : St I c t ⊢ iprop(Rcv I c t.j ∗ (Rcv I c t.j -∗ St I c t)) := by
  unfold St
  iintro ⟨#HR, Ho, Hi, Hb, Ht, Hs, Hr, Hk, Ha, Hu, Hd, He⟩
  isplitl [Hr]; · iexact Hr
  iintro Hr
  iframe HR Ho Hi Hb Ht Hs Hr Hk Ha Hu Hd He

/-- the accumulator apart; -/
theorem st_ac {a' m' : ℕ} : St I c t ⊢ iprop(Ac I c t.a t.m ∗ (Ac I c a' m' -∗ St I c { t with a := a', m := m' })) := by
  unfold St
  iintro ⟨#HR, Ho, Hi, Hb, Ht, Hs, Hr, Hk, Ha, Hu, Hd, He⟩
  isplitl [Ha]; · iexact Ha
  iintro Ha
  iframe HR Ho Hi Hb Ht Hs Hr Hk Ha Hu Hd He

/-- the result apart. -/
theorem st_ot {o' : ℕ} : St I c t ⊢ iprop(Ot I c t.o ∗ (Ot I c o' -∗ St I c { t with o := o' })) := by
  unfold St
  iintro ⟨#HR, Ho, Hi, Hb, Ht, Hs, Hr, Hk, Ha, Hu, Hd, He⟩
  isplitl [Hu]; · iexact Hu
  iintro Hu
  iframe HR Ho Hi Hb Ht Hs Hr Hk Ha Hu Hd He

theorem and_left {M : Type} [URA M] {A B A' : sProp M} : iprop(A ∗ B) ⊢ iprop(A ∗ (A' -∗ iprop(A' ∗ B))) := by
  iintro ⟨HA, HB⟩
  isplitl [HA]; · iexact HA
  iintro HA
  isplitl [HA] <;> iassumption
theorem and_right {M : Type} [URA M] {A B B' : sProp M} : iprop(A ∗ B) ⊢ iprop(B ∗ (B' -∗ iprop(A ∗ B'))) := by
  iintro ⟨HA, HB⟩
  isplitl [HB]; · iexact HB
  iintro HB
  isplitl [HA] <;> iassumption

/-! ### Loads and stores -/

theorem Run.whole {s : Shape} {e : EltTy} {m : Memref sig .tc .vmem s e} {r : Rect s} {hl : m.view.LoadsAt r.toLoadRect}
    {f : Buf (Elt F) ((m.access r).loc (c : Thread nD τ))} {k : Vec F r.shape e → Prog Op α}
    (hs : St I c t ⊢ iprop(((m.access r).loc (c : Thread nD τ) ↦{fullShare} f) ∗ (((m.access r).loc (c : Thread nD τ) ↦{fullShare} f) -∗ St I c t)))
    (hk : Run I c t (k ((m.access r).read (Elt F) f)) φ t') : Run I c t (.op (.load m r.toLoadRect hl) k) φ t' := by
  intro Q
  iintro ⟨HS, HQ⟩
  ihave H := hs $$ HS
  icases H with ⟨HP, Hback⟩
  iapply (wp_load_rect 𝒱₀ (c : Thread nD τ) none Set.univ (m := m) (Finset.subset_univ _)) $$ HP
  iintro HP
  iapply (hk Q)
  isplitl [HP Hback]; · iapply Hback; iexact HP
  iexact HQ
theorem Run.scalar {s : Shape} {e : EltTy} {m : Memref sig .tc .smem s e} {r : Rect s} {hw : (m.access r).Loads} {x : r.shape.Idx}
    {f : Buf (Elt F) ((m.access r).loc (c : Thread nD τ))} {k : Elt F e → Prog Op α}
    (hs : St I c t ⊢ iprop(((m.access r).loc (c : Thread nD τ) ↦{fullShare} f) ∗ (((m.access r).loc (c : Thread nD τ) ↦{fullShare} f) -∗ St I c t)))
    (hk : Run I c t (k ((m.access r).read (Elt F) f x)) φ t') : Run I c t (smemLoadElt m r hw x k) φ t' := by
  intro Q
  iintro ⟨HS, HQ⟩
  ihave H := hs $$ HS
  icases H with ⟨HP, Hback⟩
  iapply (wp_smemLoadElt 𝒱₀ (c : Thread nD τ) none Set.univ (m := m) (Finset.subset_univ _)) $$ HP
  iintro HP
  iapply (hk Q)
  isplitl [HP Hback]; · iapply Hback; iexact HP
  iexact HQ

/-- A load of a row block of `x`; -/
theorem Run.load_x (e : Fin 8) {hl : xM.view.LoadsAt (Rect.unit (s := S4096x512) (k0_off1 c (BitVec.ofNat 32 e.val)) S512x512.size (k0_off1_inb c e)).toLoadRect}
    {k : Vec F S512x512 .i8 → Prog Op α} (hk : Run I c t (k (xch I e c)) φ t') :
    Run I c t (.op (.load xM (Rect.unit (s := S4096x512) (k0_off1 c (BitVec.ofNat 32 e.val)) S512x512.size (k0_off1_inb c e)).toLoadRect hl) k) φ t' :=
  Run.whole I c (via (st_inp I c) (by unfold Inp; exact and_left)) hk

/-- of a group's columns of the weight; -/
theorem Run.load_w (g : Fin 3) {hl : wM.view.LoadsAt (grp g).cols.toLoadRect}
    {k : Vec F (grp g).s2 .i8 → Prog Op α} (hk : Run I c t (k (wch I (grp g) c)) φ t') :
    Run I c t (.op (.load wM (grp g).cols.toLoadRect hl) k) φ t' :=
  Run.whole I c (via (st_inp I c) (by unfold Inp; exact via and_right and_left)) hk

/-- of the two scales. -/
theorem Run.load_a {hw : (aM.access (Rect.unit (s := S1) ![0] S1.size inb_S1_S1_0)).Loads} {x : S1.Idx}
    {k : F .f32 → Prog Op α} (hk : Run I c t (k ((aM.access (Rect.unit (s := S1) ![0] S1.size inb_S1_S1_0)).read (Elt F) (I.a c) x)) φ t') :
    Run I c t (smemLoadElt aM (Rect.unit (s := S1) ![0] S1.size inb_S1_S1_0) hw x k) φ t' :=
  Run.scalar I c (via (st_inp I c) (by unfold Inp; exact via and_right (via and_right and_left))) hk
theorem Run.load_b {hw : (bM.access (Rect.unit (s := S1) ![0] S1.size inb_S1_S1_0)).Loads} {x : S1.Idx}
    {k : F .f32 → Prog Op α} (hk : Run I c t (k ((bM.access (Rect.unit (s := S1) ![0] S1.size inb_S1_S1_0)).read (Elt F) (I.b c) x)) φ t') :
    Run I c t (smemLoadElt bM (Rect.unit (s := S1) ![0] S1.size inb_S1_S1_0) hw x k) φ t' :=
  Run.scalar I c (via (st_inp I c) (by unfold Inp; exact via and_right (via and_right and_right))) hk

/-- A load of the next send slot, before it is filled; -/
theorem Run.peek_src (n : Fin 21) (hs : n.val = t.s) {hl : (chan n).src.view.LoadsAt (chan n).r.toLoadRect}
    {k : (chan n).Val F → Prog Op α} (hk : ∀ v, Run I c t (k v) φ t') :
    Run I c t (.op (.load (chan n).src (chan n).r.toLoadRect hl) k) φ t' :=
  Run.peek I c (via (st_src I c) (via and_left (fam_take n (mem_mid.mpr ⟨hs.symm.le, n.isLt⟩) fun n : Fin 21 => srcAny (F := F) n c))) hk
/-- the store that fills it. -/
theorem Run.store_src (n : Fin 21) (hs : n.val = t.s ∧ t.i ≤ t.s) {hx : ((chan n).src.access (chan n).r).Stores Finset.univ}
    {hm : (Finset.univ : Finset (chan n).r.shape.Idx) = Finset.univ ∨ ∀ a, (chan n).r.stride a = 1} {k : PUnit → Prog Op α}
    {w : (chan n).Val F} (hw : w = sent I c n) (hk : Run I c { t with s := t.s + 1 } (k ⟨⟩) φ t') :
    Run I c t (.op (.store (chan n).src (chan n).r w Finset.univ hx hm) k) φ t' := by
  subst hw
  exact Run.store I c (via (st_src I c) (fam_move n hs.1 hs.2 (fun n : Fin 21 => srcAny (F := F) n c) fun n => srcHas n c (sent I c n))) hk

/-- A load of a receive slot after its arrival. -/
theorem Run.load_rcv (n : Fin 21) (hj : n.val < t.j) {hl : (chan n).dst.view.LoadsAt (chan n).r.toLoadRect}
    {k : (chan n).Val F → Prog Op α} (hk : Run I c t (k (sent I (peer n c) n)) φ t') :
    Run I c t (.op (.load (chan n).dst (chan n).r.toLoadRect hl) k) φ t' :=
  Run.load I c (via (st_rcv I c) (via and_right (via (fam_take n (mem_mid.mpr ⟨Nat.zero_le _, hj⟩) fun n : Fin 21 =>
    iprop(semVal (rcv n c) 0 ∗ dstHas n c (sent I (peer n c) n))) and_right))) hk

/-- The columns kept for the second exchange: not yet stored, stored, loaded. -/
theorem Run.peek_keep (g : Fin 3) (hg : g.val = t.k) {hl : keepM.view.LoadsAt (grp g).cols.toLoadRect}
    {k : Vec F (grp g).s2 .f32 → Prog Op α} (hk : ∀ v, Run I c t (k v) φ t') :
    Run I c t (.op (.load keepM (grp g).cols.toLoadRect hl) k) φ t' :=
  Run.peek I c (via (st_kp I c) (via and_left (fam_take g (mem_mid.mpr ⟨hg.symm.le, g.isLt⟩) fun g : Fin 3 => Any (F := F) keepM (grp g).cols c))) hk
theorem Run.store_keep (g : Fin 3) (hg : g.val = t.k) {hx : (keepM.access (grp g).cols).Stores Finset.univ}
    {hm : (Finset.univ : Finset (grp g).s2.Idx) = Finset.univ ∨ ∀ a, (grp g).cols.stride a = 1} {k : PUnit → Prog Op α}
    {w : Vec F (grp g).s2 .f32} (hw : w = keep8 I (grp g) 2 c) (hk : Run I c { t with k := t.k + 1 } (k ⟨⟩) φ t') :
    Run I c t (.op (.store keepM (grp g).cols w Finset.univ hx hm) k) φ t' := by
  subst hw
  exact Run.store I c (via (st_kp I c) (fam_move g hg (Nat.zero_le _) (fun g : Fin 3 => Any (F := F) keepM (grp g).cols c)
    fun g => Piece (F := F) keepM (grp g).cols c (keep8 I (grp g) 2 c))) hk
theorem Run.load_keep (g : Fin 3) (hg : g.val < t.k) {hl : keepM.view.LoadsAt (grp g).cols.toLoadRect}
    {k : Vec F (grp g).s2 .f32 → Prog Op α} (hk : Run I c t (k (keep8 I (grp g) 2 c)) φ t') :
    Run I c t (.op (.load keepM (grp g).cols.toLoadRect hl) k) φ t' :=
  Run.load I c (via (st_kp I c) (via and_right (fam_take g (mem_mid.mpr ⟨Nat.zero_le _, hg⟩)
    fun g : Fin 3 => Piece (F := F) keepM (grp g).cols c (keep8 I (grp g) 2 c)))) hk

/-- The accumulator's: not yet stored, stored, -/
theorem Run.peek_acc (g : Fin 3) (hg : g.val = t.a) {hl : accM.view.LoadsAt (grp g).cols.toLoadRect}
    {k : Vec F (grp g).s2 .f32 → Prog Op α} (hk : ∀ v, Run I c t (k v) φ t') :
    Run I c t (.op (.load accM (grp g).cols.toLoadRect hl) k) φ t' :=
  Run.peek I c (via (st_ac I c) (via and_left (fam_take g (mem_mid.mpr ⟨hg.symm.le, g.isLt⟩) fun g : Fin 3 => Any (F := F) accM (grp g).cols c))) hk
theorem Run.store_acc (g : Fin 3) (hg : g.val = t.a ∧ t.m ≤ t.a) {hx : (accM.access (grp g).cols).Stores Finset.univ}
    {hm : (Finset.univ : Finset (grp g).s2.Idx) = Finset.univ ∨ ∀ a, (grp g).cols.stride a = 1} {k : PUnit → Prog Op α}
    {w : Vec F (grp g).s2 .f32} (hw : w = keep8 I (grp g) 3 c) (hk : Run I c { t with a := t.a + 1 } (k ⟨⟩) φ t') :
    Run I c t (.op (.store accM (grp g).cols w Finset.univ hx hm) k) φ t' := by
  subst hw
  refine Run.store I c (t1 := { t with a := t.a + 1 }) (via (st_ac I c (a' := t.a + 1) (m' := t.m)) ?_) hk
  unfold Ac
  iintro ⟨H1, H2, H3⟩
  ihave H := (fam_move g hg.1 hg.2 (fun g : Fin 3 => Any (F := F) accM (grp g).cols c) fun g => Piece (F := F) accM (grp g).cols c (keep8 I (grp g) 3 c)) $$ [H1 H2]
  · isplitl [H1] <;> iassumption
  icases H with ⟨HP, Hb⟩
  isplitl [HP]; · iexact HP
  iintro HP
  ihave H := Hb $$ HP
  icases H with ⟨H1, H2⟩
  iframe H1 H2 H3
/-- loaded, its sum with the second exchange's stored, -/
theorem Run.load_acc8 (g : Fin 3) (hg : t.m ≤ g.val ∧ g.val < t.a) {hl : accM.view.LoadsAt (grp g).cols.toLoadRect}
    {k : Vec F (grp g).s2 .f32 → Prog Op α} (hk : Run I c t (k (keep8 I (grp g) 3 c)) φ t') :
    Run I c t (.op (.load accM (grp g).cols.toLoadRect hl) k) φ t' :=
  Run.load I c (via (st_ac I c) (via and_right (via and_left (fam_take g (mem_mid.mpr hg)
    fun g : Fin 3 => Piece (F := F) accM (grp g).cols c (keep8 I (grp g) 3 c))))) hk
theorem Run.store_acc16 (g : Fin 3) (hg : g.val = t.m ∧ t.m < t.a) {hx : (accM.access (grp g).cols).Stores Finset.univ}
    {hm : (Finset.univ : Finset (grp g).s2.Idx) = Finset.univ ∨ ∀ a, (grp g).cols.stride a = 1} {k : PUnit → Prog Op α}
    {w : Vec F (grp g).s2 .f32} (hw : w = keep16 I (grp g) c) (hk : Run I c { t with m := t.m + 1 } (k ⟨⟩) φ t') :
    Run I c t (.op (.store accM (grp g).cols w Finset.univ hx hm) k) φ t' := by
  subst hw
  refine Run.store I c (t1 := { t with m := t.m + 1 }) (via (st_ac I c (a' := t.a) (m' := t.m + 1)) ?_) hk
  unfold Ac
  rw [sep_pop g hg.1 hg.2 fun g : Fin 3 => Piece (F := F) accM (grp g).cols c (keep8 I (grp g) 3 c),
    sep_push g hg.1 (Nat.zero_le _) fun g : Fin 3 => Piece (F := F) accM (grp g).cols c (keep16 I (grp g) c)]
  iintro ⟨H1, ⟨HP, H2⟩, H3⟩
  isplitl [HP]; · iapply (piece_any _ _ _ _); iexact HP
  iintro HP
  iframe H1 HP H2 H3
/-- and that loaded. -/
theorem Run.load_acc16 (g : Fin 3) (hg : g.val < t.m) {hl : accM.view.LoadsAt (grp g).cols.toLoadRect}
    {k : Vec F (grp g).s2 .f32 → Prog Op α} (hk : Run I c t (k (keep16 I (grp g) c)) φ t') :
    Run I c t (.op (.load accM (grp g).cols.toLoadRect hl) k) φ t' :=
  Run.load I c (via (st_ac I c) (via and_right (via and_right (fam_take g (mem_mid.mpr ⟨Nat.zero_le _, hg⟩)
    fun g : Fin 3 => Piece (F := F) accM (grp g).cols c (keep16 I (grp g) c))))) hk

/-- The result's columns: not yet stored, stored. -/
theorem Run.peek_out (g : Fin 3) (hg : g.val = t.o) {hl : oM.view.LoadsAt (grp g).cols.toLoadRect}
    {k : Vec F (grp g).s2 .f32 → Prog Op α} (hk : ∀ v, Run I c t (k v) φ t') :
    Run I c t (.op (.load oM (grp g).cols.toLoadRect hl) k) φ t' :=
  Run.peek I c (via (st_ot I c) (via and_left (fam_take g (mem_mid.mpr ⟨hg.symm.le, g.isLt⟩) fun g : Fin 3 => Any (F := F) oM (grp g).cols c))) hk
theorem Run.store_out (g : Fin 3) (hg : g.val = t.o) {hx : (oM.access (grp g).cols).Stores Finset.univ}
    {hm : (Finset.univ : Finset (grp g).s2.Idx) = Finset.univ ∨ ∀ a, (grp g).cols.stride a = 1} {k : PUnit → Prog Op α}
    {w : Vec F (grp g).s2 .f32} (hw : w = res I (grp g) c) (hk : Run I c { t with o := t.o + 1 } (k ⟨⟩) φ t') :
    Run I c t (.op (.store oM (grp g).cols w Finset.univ hx hm) k) φ t' := by
  subst hw
  exact Run.store I c (via (st_ot I c) (fam_move g hg (Nat.zero_le _) (fun g : Fin 3 => Any (F := F) oM (grp g).cols c)
    fun g => Piece (F := F) oM (grp g).cols c (res I (grp g) c))) hk

end Steps

end Cert.Cube
-- ==== Proof.Sync.lean ====
/-
# The exchange kernel's protocol, 5: signals, waits and copies
-/
module

public import proofs.«01_k».proof.Proof.Ops

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Op" => TpuEff nD τ sig (Elt F) Λ₀ Proc.tc

section Cells
variable (I : Ins F) (c : Dev nD) {α : Type}

/-- A device signals a partner's barrier, paying one of its duties; -/
theorem wp_pay (x : Bool) (d : Dev nD) (j : Fin 3) {sm : Sem sig} (hg : cell d (.inl x) = ((d : Thread nD τ), SemLoc.reg sm))
    {O₀ O : CellTallies nD τ sig Unit} (hO : O₀ = O + tallyAt (cell d (.inl x)) () 1) {W : Waits sig Unit}
    {k : PUnit → Prog Op α} {Q : α → sProp 𝕄} :
    iprop(Recs I ∗ owes (c : Thread nD τ) O₀ W ∗ dutyTok ER (cell d (.inl x)) 0 j ∗ pay I d (.inl x) j)
      ⊢ iprop((owes (c : Thread nD τ) O W -∗ WP c (k ⟨⟩) Q) -∗ WP c (.op (.semSignal (d : Thread nD τ) sm ((1 : ℕ) : ℤ)) k) Q) := by
  have hd : j ∈ (Rd I).duties (cell d (.inl x)) 0 := by rw [duties_cell]; exact Finset.mem_univ _
  have ha : (Rd I).amount (cell d (.inl x)) 0 j = 1 := amount_cell I d (.inl x) j
  have hi := recs_inv I d (.inl x)
  have hr := recs_reached I d (.inl x)
  have hp := payload_cell I d (.inl x) j
  rw [hg] at hd ha hi hr hp hO ⊢
  rw [← hp]
  iintro ⟨#HR, HO, Ht, Hp⟩ Hk
  ihave HI := hi $$ HR
  icases HI with ⟨%κ, #HI⟩
  iapply (Rounds.wp_signal 𝒱₀ ER (Rd I) (c : Thread nD τ) none (dst := (d : Thread nD τ)) (κ := κ) (d := j) (r := 0) hd ha () O hO) $$ [HO Ht Hp]
  · isplitr; · iexact HI
    isplitl [HO]; · iexact HO
    isplitl [Ht]; · iexact Ht
    isplitl [Hp]; · iexact Hp
    iapply hr; iexact HR
  iexact Hk

/-- it waits for all of one of its own cells, which then closes. -/
theorem wp_await (x : Cell) {op : Op PUnit} {n : ℕ}
    (hw : ∀ K : PUnit → sProp 𝕄, wpE (defs₀ (F := F)) 𝒱₀ (c : Thread nD τ) none Set.univ op K = waitSpec (c : Thread nD τ) Set.univ (csem x) n K)
    (hn : 0 + n = (Rd I).expect (cell c x) 0) {b i f : ℕ} (hm : (levAts L lv : sProp 𝕄) ⊢ MayWait (c : Thread nD τ) (csem x) () (Owed c b i f)) {k : PUnit → Prog Op α} {Q : α → sProp 𝕄} :
    iprop(Recs I ∗ cred (tallyAt (cell c x) () n) ∗ Ow c b i f ∗ atPos ER (cell c x) 0 ∅ 0)
      ⊢ iprop(((Ow c b i f ∗ semVal (cell c x) 0 ∗ bigSep (dut x) (pay I c x)) -∗ WP c (k ⟨⟩) Q) -∗ WP c (.op op k) Q) := by
  unfold Ow
  iintro ⟨#HR, Hc, ⟨%W, HO⟩, Ha⟩ Hk
  ihave HI := (recs_inv I c x) $$ HR
  icases HI with ⟨%κ, #HI⟩
  iapply (Rounds.wp_wait_rest_token 𝒱₀ ER (Rd I) (c : Thread nD τ) none (κ := κ) hw (Set.mem_univ _) () (O := Owed c b i f) (W := W)
    (R := 0) (m := 0) (T := ∅) hn) $$ [Hc HO Ha]
  · isplitr; · iexact HI
    isplitl [Hc]; · iexact Hc
    isplitl [HO]; · iexact HO
    isplitr; · iapply hm; iapply (recs_lev I); iexact HR
    iexact Ha
  iintro ⟨HO, Ha, -, Hp⟩
  imod (Rounds.cell_close ER (Rd I) (Set.mem_univ κ) (fun h => h) (R := 0 + 1) (duties_later I (cell c x))) $$ [Ha] with Hz
  · isplitr; · iexact HI
    iexact Ha
  iapply Hk
  isplitl [HO]; · iexists _; iexact HO
  isplitl [Hz]; · iexact Hz
  iapply (Entails.of_eq (rest_cell I c x)); iexact Hp

/-- A copy of a filled slot to a device that gave its slot: the departure gives the slot back, the arrival the contents. -/
theorem wp_copy (K : Chan) (v : K.Val F) (d : Dev nD) {s r : DmaSem sig} {κ κ' : ℕ}
    (hd₁ : (0 : Fin 3) ∈ (Rd I).duties ((c : Thread nD τ), .dma s) 0) (hd₂ : (0 : Fin 3) ∈ (Rd I).duties ((d : Thread nD τ), .dma r) 0)
    (ha₁ : (Rd I).amount ((c : Thread nD τ), .dma s) 0 0 = K.amt) (ha₂ : (Rd I).amount ((d : Thread nD τ), .dma r) 0 0 = K.amt)
    (hp₁ : Any (F := F) K.src K.r c ⊢ (Rd I).payload ((c : Thread nD τ), .dma s) 0 0)
    (hp₂ : Piece (F := F) K.dst K.r d v ⊢ (Rd I).payload ((d : Thread nD τ), .dma r) 0 0)
    {O₀ O : CellTallies nD τ sig Unit} (hO : O₀ = O + tallyAt ((d : Thread nD τ), .dma r) () K.amt) {W : Waits sig Unit}
    {hsc : K.dM.view.ref.isScScratch = false} {hsrc : K.sM.view.WordExact} {hdst : K.dM.view.WordExact}
    {hsem : DmaTarget.Typed .vmem (.dma r) (.remote (d : Thread nD τ) K.dM (.dma s) hsc)} {k : PUnit → Prog Op α} {Q : α → sProp 𝕄} :
    iprop(cellInv ER (Rd I) κ ((c : Thread nD τ), .dma s) ∗ cellInv ER (Rd I) κ' ((d : Thread nD τ), .dma r)
        ∗ Piece (F := F) K.src K.r c v ∗ Any (F := F) K.dst K.r d ∗ owes (c : Thread nD τ) O₀ W
        ∗ dutyTok ER ((c : Thread nD τ), .dma s) 0 0 ∗ reached ER ((c : Thread nD τ), .dma s) 0
        ∗ dutyTok ER ((d : Thread nD τ), .dma r) 0 0 ∗ reached ER ((d : Thread nD τ), .dma r) 0)
      ⊢ iprop(((cred (tallyAt ((c : Thread nD τ), .dma s) () K.amt) ∗ owes (c : Thread nD τ) O W) -∗ WP c (k ⟨⟩) Q)
        -∗ WP c (.op (.enqueueDma K.sM (.remote (d : Thread nD τ) K.dM (.dma s) hsc) (.dma r) hsrc hdst hsem) k) Q) := by
  unfold Any at hp₁ ⊢
  unfold Piece at hp₁ hp₂ ⊢
  iintro ⟨HI, HI', ⟨%fs, %hf, Hs⟩, ⟨%u, %fd, %hv, Hd⟩, HO, Ht, Hr, Ht', Hr'⟩ Hk
  have hq₁ : ((K.sM.view.loc (c : Thread nD τ) ↦[K.sM.view.set]{fullShare} fs) : sProp 𝕄) ⊢ (Rd I).payload ((c : Thread nD τ), .dma s) 0 0 := by
    iintro H
    iapply hp₁
    iexists _, fs
    isplitr; · (ipureintro; rfl)
    rw [View.set_reshape]; iexact H
  have hq₂ : ((K.dM.view.loc (d : Thread nD τ) ↦[K.dM.view.set]{fullShare}
      (K.dM.view.write (Elt F) fd (K.sM.view.read (Elt F) fs) Finset.univ)) : sProp 𝕄) ⊢ (Rd I).payload ((d : Thread nD τ), .dma r) 0 0 := by
    iintro H
    iapply hp₂
    iexists _
    isplitr; swap; · rw [View.set_reshape]; iexact H
    ipureintro
    exact (copied (K.src.access K.r) (K.dst.access K.r) K.hq.numel_eq fs fd).trans hf
  have hN : K.dM.view.amount (.dma r) = K.amt := rfl
  iapply (Rounds.wp_send_pointsTo (c' := (d : Thread nD τ)) (src := K.sM) (dst := K.dM) 𝒱₀ ER (Rd I) (c : Thread nD τ) none (κ₁ := κ) (κ₂ := κ') (r₁ := 0) (r₂ := 0)
    (d₁ := 0) (d₂ := 0) (fs := fs) (fd := fd) hd₁ hd₂ () () K.amt hN ha₁ ha₂ O hO (W := W) hq₁ hq₂) $$ [HI HI' Hs Hd HO Ht Hr Ht' Hr']
  · isplitl [HI]; · iexact HI
    isplitl [HI']; · iexact HI'
    isplitl [Hs]; · rw [View.set_reshape]; iexact Hs
    isplitl [Hd]; · rw [View.set_reshape]; iexact Hd
    isplitl [HO]; · iexact HO
    isplitl [Ht]; · iexact Ht
    isplitl [Hr]; · iexact Hr
    isplitl [Ht'] <;> iassumption
  iexact Hk

/-- It starts copy `n`: the filled slot and the partner's slot go with it, and come back with the departure and, to the
    partner, with the arrival. -/
theorem wp_copy_start (n : Fin 21) (d : Dev nD) (hd : d = peer n c) {s r : DmaSem sig} (hs : s = sS n) (hr : r = rS n) {b f : ℕ}
    {hsc : (chan n).dM.view.ref.isScScratch = false} {hsrc : (chan n).sM.view.WordExact} {hdst : (chan n).dM.view.WordExact}
    {hsem : DmaTarget.Typed .vmem (.dma r) (.remote (d : Thread nD τ) (chan n).dM (.dma s) hsc)}
    {k : PUnit → Prog Op α} {Q : α → sProp 𝕄} :
    iprop(Recs I ∗ srcHas n c (sent I c n) ∗ dstAny (F := F) n (peer n c) ∗ Ow c b n.val f ∗ dutyTok ER (snd n c) 0 0 ∗ dutyTok ER (rcv n (peer n c)) 0 0)
      ⊢ iprop(((cred (tallyAt (snd n c) () (chan n).amt) ∗ Ow c b (n.val + 1) f) -∗ WP c (k ⟨⟩) Q)
        -∗ WP c (.op (.enqueueDma (chan n).sM (.remote (d : Thread nD τ) (chan n).dM (.dma s) hsc) (.dma r) hsrc hdst hsem) k) Q) := by
  have g₁ : snd n c = ((c : Thread nD τ), SemLoc.dma s) := by rw [hs]; rfl
  have g₂ : rcv n d = ((d : Thread nD τ), SemLoc.dma r) := by rw [hr]; rfl
  have hd₁ : (0 : Fin 3) ∈ (Rd I).duties (snd n c) 0 := by rw [duties_cell]; exact Finset.mem_singleton_self _
  have hd₂ : (0 : Fin 3) ∈ (Rd I).duties (rcv n d) 0 := by rw [duties_cell]; exact Finset.mem_singleton_self _
  have ha₁ : (Rd I).amount (snd n c) 0 0 = (chan n).amt := amount_cell I c (.inr (false, n)) 0
  have ha₂ : (Rd I).amount (rcv n d) 0 0 = (chan n).amt := amount_cell I d (.inr (true, n)) 0
  have hp₁ : srcAny (F := F) n c ⊢ (Rd I).payload (snd n c) 0 0 := Entails.of_eq (payload_cell I c (.inr (false, n)) 0).symm
  have hp₂ : dstHas n d (sent I c n) ⊢ (Rd I).payload (rcv n d) 0 0 := Entails.of_eq (by
    rw [payload_cell I d (.inr (true, n)) 0]; unfold pay; dsimp only; rw [hd, peer_peer])
  have hi₁ : Recs I ⊢ iprop(∃ κ : ℕ, cellInv ER (Rd I) κ (snd n c)) := recs_inv I c (.inr (false, n))
  have hi₂ : Recs I ⊢ iprop(∃ κ : ℕ, cellInv ER (Rd I) κ (rcv n d)) := recs_inv I d (.inr (true, n))
  have hr₁ : Recs I ⊢ reached ER (snd n c) 0 := recs_reached I c (.inr (false, n))
  have hr₂ : Recs I ⊢ reached ER (rcv n d) 0 := recs_reached I d (.inr (true, n))
  have hO := owed_start c b f n
  unfold Ow
  rw [← hd] at hO ⊢
  rw [g₁] at hd₁ ha₁ hp₁ hi₁ hr₁ ⊢
  rw [g₂] at hd₂ ha₂ hp₂ hi₂ hr₂ hO ⊢
  iintro ⟨#HR, Hs, Hd, ⟨%W, HO⟩, Ht, Ht'⟩ Hk
  ihave HI := hi₁ $$ HR
  icases HI with ⟨%κ, #HI⟩
  ihave HI' := hi₂ $$ HR
  icases HI' with ⟨%κ', #HI'⟩
  iapply (wp_copy I c (chan n) (sent I c n) d (κ := κ) (κ' := κ') hd₁ hd₂ ha₁ ha₂ hp₁ hp₂ hO (W := W)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iapply hr₁; iexact HR
    isplitl [Ht']; · iexact Ht'
    iapply hr₂; iexact HR
  iintro ⟨Hc, HO⟩
  iapply Hk
  isplitl [Hc]; · iexact Hc
  iexists W; iexact HO

end Cells

section Steps
variable (I : Ins F) (c : Dev nD) {α : Type} {t t' : Stage} {φ : α → Prop}

/-- The three entry payloads are the partners' slots of all the copies. -/
theorem entry_slots : bigSep (dut (.inl false)) (pay I c (.inl false)) = bigSep (mid 0 21) fun n : Fin 21 => dstAny (F := F) n (peer n c) := by
  rw [mid_all, BI.bigSep_fiberwise Finset.univ dir fun n => dstAny (F := F) n (peer n c),
    show Finset.univ.image dir = dut (.inl false) from by decide]
  refine BI.bigSep_congr fun i _ => ?_
  show entryPay (F := F) c i = _
  unfold entryPay
  refine BI.bigSep_congr fun n hn => ?_
  rw [peer, (Finset.mem_filter.mp hn).2]

/-- Entry signal `j`. -/
theorem Run.signal (j : Fin 3) (hb : t.b = j.val) {d : Dev nD} (hd : d = pt j c) {n : ℤ} (hn : n = ((1 : ℕ) : ℤ))
    {k : PUnit → Prog Op α} (hk : Run I c { t with b := t.b + 1 } (k ⟨⟩) φ t') : Run I c t (.op (.semSignal (d : Thread nD τ) barS n) k) φ t' := by
  subst hd hn
  obtain ⟨b, s, i, j', k', a, m, o, w, f⟩ := t
  dsimp only at hb hk
  subst hb
  refine Run.step I c (fun Q => ?_) hk
  unfold St
  dsimp only
  unfold Ow Bar Tok
  rw [if_pos (show j.val < 4 by omega), if_pos (show j.val + 1 < 4 by omega), if_pos (show j.val < 4 by omega), if_pos (show j.val + 1 < 4 by omega),
    sep_pop j rfl j.isLt fun j : Fin 3 => iprop(dutyTok ER (bar (pt j c)) 0 j ∗ entryPay (F := F) (pt j c) j)]
  iintro ⟨#HR, Ho, Hi, Hb, Ht, Hs, Hr, Hk, Ha, Hu, Hd, He⟩ HQ
  icases Ho with ⟨%W, HO⟩
  icases Hb with ⟨⟨⟨Htok, Hp⟩, Hbs⟩, Hb⟩
  iapply (wp_pay I c false (pt j c) j (sm := barS) rfl (owed_bar c i f j)) $$ [HO Htok Hp]
  · isplitr; · iexact HR
    isplitl [HO]; · iexact HO
    isplitl [Htok]; · iexact Htok
    iapply (Entails.of_eq (show entryPay (F := F) (pt j c) j = pay I (pt j c) (.inl false) j from rfl)); iexact Hp
  iintro HO
  iapply HQ
  isplitr; · iexact HR
  isplitl [HO]; · iexists W; iexact HO
  iframe Hi Hbs Hb Ht Hs Hr Hk Ha Hu Hd He

/-- The wait of the entry barrier: the partners' slots come with it. -/
theorem Run.enter (hb : t.b = 3 ∧ t.i = 0) {n : ℤ} (hn : n = ((3 : ℕ) : ℤ))
    {k : PUnit → Prog Op α} (hk : Run I c { t with b := 4 } (k ⟨⟩) φ t') : Run I c t (.op (.semWait barS n) k) φ t' := by
  subst hn
  obtain ⟨b, s, i, j', k', a, m, o, w, f⟩ := t
  dsimp only at hb hk
  obtain ⟨rfl, rfl⟩ := hb
  refine Run.step I c (fun Q => ?_) hk
  unfold St
  dsimp only
  unfold Bar Tok
  rw [if_pos (by decide), if_pos (by decide), if_neg (by decide), if_neg (by decide)]
  iintro ⟨#HR, Ho, Hi, Hb, Ht, Hs, Hr, Hk, Ha, Hu, Hd, He⟩ HQ
  icases Hb with ⟨-, Hat, Hc⟩
  icases Ht with ⟨Ht, -⟩
  iapply (wp_await I c (.inl false) (wpE_semWait_eq 𝒱₀ (c : Thread nD τ) none Set.univ) (by rw [expect_bar])
    (mayWait c _ 1 3 0 f (lv_cell c (.inl false) ()) (by decide) (by decide) (fun _ => by decide))) $$ [Hc Ho Hat]
  · isplitr; · iexact HR
    isplitl [Hc]; · iexact Hc
    isplitl [Ho]; · iexact Ho
    iexact Hat
  iintro ⟨Ho, Hz, Hp⟩
  ihave Hp := (Entails.of_eq (entry_slots I c)) $$ Hp
  iapply HQ
  isplitr; · iexact HR
  isplitl [Ho]
  · iapply (Entails.of_eq (show Ow (F := F) c 3 0 f = Ow c 4 0 f by unfold Ow Owed; rfl)); iexact Ho
  iframe Hi Hz Ht Hp Hs Hr Hk Ha Hu Hd He

/-- Exit signal `j`; -/
theorem Run.leave (j : Fin 3) (hf : t.f = j.val) {d : Dev nD} (hd : d = pt j c) {n : ℤ} (hn : n = ((1 : ℕ) : ℤ))
    {k : PUnit → Prog Op α} (hk : Run I c { t with f := t.f + 1 } (k ⟨⟩) φ t') : Run I c t (.op (.semSignal (d : Thread nD τ) finS n) k) φ t' := by
  subst hd hn
  obtain ⟨b, s, i, j', k', a, m, o, w, f⟩ := t
  dsimp only at hf hk
  subst hf
  refine Run.step I c (fun Q => ?_) hk
  unfold St
  dsimp only
  unfold Ow Ex
  rw [if_pos (show j.val < 4 by omega), if_pos (show j.val + 1 < 4 by omega), sep_pop j rfl j.isLt fun j : Fin 3 => (dutyTok ER (fin (pt j c)) 0 j : sProp 𝕄)]
  iintro ⟨#HR, Ho, Hi, Hb, Ht, Hs, Hr, Hk, Ha, Hu, Hd, He⟩ HQ
  icases Ho with ⟨%W, HO⟩
  icases He with ⟨⟨Htok, Hbs⟩, He⟩
  iapply (wp_pay I c true (pt j c) j (sm := finS) rfl (owed_fin c b i j)) $$ [HO Htok]
  · isplitr; · iexact HR
    isplitl [HO]; · iexact HO
    isplitl [Htok]; · iexact Htok
    iempintro
  iintro HO
  iapply HQ
  isplitr; · iexact HR
  isplitl [HO]; · iexists W; iexact HO
  iframe Hi Hb Ht Hs Hr Hk Ha Hu Hd Hbs He

/-- the wait of the exit barrier. -/
theorem Run.exit (hf : t.f = 3 ∧ 3 ≤ t.b ∧ 21 ≤ t.i) {n : ℤ} (hn : n = ((3 : ℕ) : ℤ))
    {k : PUnit → Prog Op α} (hk : Run I c { t with f := 4 } (k ⟨⟩) φ t') : Run I c t (.op (.semWait finS n) k) φ t' := by
  subst hn
  obtain ⟨b, s, i, j', k', a, m, o, w, f⟩ := t
  dsimp only at hf hk
  obtain ⟨rfl, hb, hi⟩ := hf
  refine Run.step I c (fun Q => ?_) hk
  unfold St
  dsimp only
  unfold Ex
  rw [if_pos (by decide), if_neg (by decide)]
  iintro ⟨#HR, Ho, Hi, Hb, Ht, Hs, Hr, Hk, Ha, Hu, Hd, He⟩ HQ
  icases He with ⟨-, Hat, Hc⟩
  iapply (wp_await I c (.inl true) (wpE_semWait_eq 𝒱₀ (c : Thread nD τ) none Set.univ) (by rw [expect_bar])
    (mayWait c _ 5 b i 3 (lv_cell c (.inl true) ()) (fun h => absurd h (by omega)) (fun n hn => absurd n.isLt (by omega)) (by decide))) $$ [Hc Ho Hat]
  · isplitr; · iexact HR
    isplitl [Hc]; · iexact Hc
    isplitl [Ho]; · iexact Ho
    iexact Hat
  iintro ⟨Ho, Hz, -⟩
  iapply HQ
  isplitr; · iexact HR
  isplitl [Ho]
  · iapply (Entails.of_eq (show Ow (F := F) c b i 3 = Ow c b i 4 by unfold Ow Owed; rfl)); iexact Ho
  iframe Hi Hb Ht Hs Hr Hk Ha Hu Hd Hz

/-- The start of copy `n`. -/
theorem Run.start (n : Fin 21) (hi : t.b = 4 ∧ t.i = n.val ∧ n.val < t.s ∧ t.w ≤ n.val) {d : Dev nD} (hd : d = peer n c) {s r : DmaSem sig} (hs : s = sS n) (hr : r = rS n)
    {hsc : (chan n).dM.view.ref.isScScratch = false} {hsrc : (chan n).sM.view.WordExact} {hdst : (chan n).dM.view.WordExact}
    {hsem : DmaTarget.Typed .vmem (.dma r) (.remote (d : Thread nD τ) (chan n).dM (.dma s) hsc)}
    {k : PUnit → Prog Op α} (hk : Run I c { t with i := t.i + 1 } (k ⟨⟩) φ t') :
    Run I c t (.op (.enqueueDma (chan n).sM (.remote (d : Thread nD τ) (chan n).dM (.dma s) hsc) (.dma r) hsrc hdst hsem) k) φ t' := by
  obtain ⟨b, s', i, j', k', a, m, o, w, f⟩ := t
  dsimp only at hi hk
  obtain ⟨rfl, rfl, hs', hw⟩ := hi
  refine Run.step I c (fun Q => ?_) hk
  unfold St
  dsimp only
  unfold Tok Src Dep
  rw [if_neg (by decide), if_neg (by decide), sep_pop n rfl n.isLt fun n : Fin 21 => dstAny (F := F) n (peer n c),
    sep_pop n rfl n.isLt fun n : Fin 21 => (iprop(dutyTok ER (snd n c) 0 0 ∗ dutyTok ER (rcv n (peer n c)) 0 0) : sProp 𝕄),
    sep_pop n rfl hs' fun n : Fin 21 => srcHas n c (sent I c n),
    sep_push n rfl hw fun n : Fin 21 => (cred (tallyAt (snd n c) () (chan n).amt) : sProp 𝕄)]
  iintro ⟨#HR, Ho, Hi, Hb, Ht, Hs, Hr, Hk, Ha, Hu, Hd, He⟩ HQ
  icases Ht with ⟨⟨⟨Ht1, Ht2⟩, Ht⟩, ⟨Hds, Hdr⟩⟩
  icases Hs with ⟨Hs0, ⟨Hs1, Hs⟩⟩
  icases Hd with ⟨Hd0, Hd1, Hd2⟩
  iapply (wp_copy_start I c n d hd hs hr) $$ [Ho Ht1 Ht2 Hds Hs1]
  · isplitr; · iexact HR
    isplitl [Hs1]; · iexact Hs1
    isplitl [Hds]; · iexact Hds
    isplitl [Ho]; · iexact Ho
    isplitl [Ht1]; · iexact Ht1
    iexact Ht2
  iintro ⟨Hc, Ho⟩
  iapply HQ
  isplitr; · iexact HR
  iframe Ho Hi Hb Ht Hdr Hs0 Hs Hr Hk Ha Hu Hd0 Hc Hd1 Hd2 He

/-- The arrival of copy `n`. -/
theorem Run.arrive (n : Fin 21) (hj : t.j = n.val ∧ 3 ≤ t.b ∧ t.f = 0) (hl : ∀ n' : Fin 21, t.i ≤ n'.val → clev (.inr (true, n)) < clev (.inr (true, n')))
    {r : DmaSem sig} (hr : r = rS n) {sp : Space} {s s' : Shape} {e e' : EltTy} {src : Memref sig .tc sp s e} {dst : Memref sig .tc .vmem s' e'}
    {h1 h2} (hd : dst.view.dmaCredit = (chan n).amt)
    {k : PUnit → Prog Op α} (hk : Run I c { t with j := t.j + 1 } (k ⟨⟩) φ t') : Run I c t (.op (.waitDma2 r src dst h1 h2) k) φ t' := by
  subst hr
  obtain ⟨b, s', i, j', k', a, m, o, w, f⟩ := t
  dsimp only at hj hk hl
  obtain ⟨rfl, hb, rfl⟩ := hj
  refine Run.step I c (fun Q => ?_) hk
  unfold St
  dsimp only
  unfold Rcv
  rw [sep_pop n rfl n.isLt fun n : Fin 21 => (iprop(atPos ER (rcv n c) 0 ∅ 0 ∗ cred (tallyAt (rcv n c) () (chan n).amt)) : sProp 𝕄),
    sep_push n rfl (Nat.zero_le _) fun n : Fin 21 => iprop(semVal (rcv n c) 0 ∗ dstHas n c (sent I (peer n c) n))]
  iintro ⟨#HR, Ho, Hi, Hb, Ht, Hs, Hr, Hk, Ha, Hu, Hd, He⟩ HQ
  icases Hr with ⟨⟨⟨Hat, Hc⟩, Hr0⟩, Hr1⟩
  iapply (wp_await I c (.inr (true, n)) (n := (chan n).amt) (by rw [← hd]; exact wpE_waitDma2_eq 𝒱₀ (c : Thread nD τ) none Set.univ) (by rw [expect_copy, Nat.zero_add])
    (mayWait c _ (clev (.inr (true, n))) b i 0 (lv_cell c (.inr (true, n)) ()) (fun h => absurd h (by omega)) hl
      (fun _ => by unfold clev; dsimp only; split <;> [decide; (split <;> decide)]))) $$ [Hc Ho Hat]
  · isplitr; · iexact HR
    isplitl [Hc]; · iexact Hc
    isplitl [Ho]; · iexact Ho
    iexact Hat
  iintro ⟨Ho, Hz, Hp⟩
  ihave Hp := (sep_elim (S := dut (.inr (true, n))) (i := 0) (Φ := pay I c (.inr (true, n))) (Finset.mem_singleton_self _)) $$ Hp
  iapply HQ
  isplitr; · iexact HR
  isplitl [Ho]; · iexact Ho
  isplitl [Hi]; · iexact Hi
  isplitl [Hb]; · iexact Hb
  isplitl [Ht]; · iexact Ht
  isplitl [Hs]; · iexact Hs
  isplitl [Hz Hp Hr0 Hr1]
  · isplitl [Hr0]; · iexact Hr0
    isplitl [Hz Hp]
    · isplitl [Hz]; · iexact Hz
      iapply (Entails.of_eq (show pay I c (.inr (true, n)) 0 = dstHas n c (sent I (peer n c) n) from rfl)); iexact Hp
    iexact Hr1
  iframe Hk Ha Hu Hd He

/-- The departure of copy `n`. -/
theorem Run.depart (n : Fin 21) (hj : t.w = n.val ∧ n.val < t.i ∧ 3 ≤ t.b ∧ t.f = 0)
    {r : DmaSem sig} (hr : r = sS n) {sp : Space} {s s' : Shape} {e e' : EltTy} {src : Memref sig .tc sp s e} {dst : Memref sig .tc .vmem s' e'}
    {h1 h2} (hd : dst.view.dmaCredit = (chan n).amt)
    {k : PUnit → Prog Op α} (hk : Run I c { t with w := t.w + 1 } (k ⟨⟩) φ t') : Run I c t (.op (.waitDma2 r src dst h1 h2) k) φ t' := by
  subst hr
  obtain ⟨b, s', i, j', k', a, m, o, w, f⟩ := t
  dsimp only at hj hk
  obtain ⟨rfl, hi, hb, rfl⟩ := hj
  refine Run.step I c (fun Q => ?_) hk
  unfold St
  dsimp only
  unfold Dep
  rw [sep_pop n rfl n.isLt fun n : Fin 21 => (atPos ER (snd n c) 0 ∅ 0 : sProp 𝕄),
    sep_pop n rfl hi fun n : Fin 21 => (cred (tallyAt (snd n c) () (chan n).amt) : sProp 𝕄),
    sep_push n rfl (Nat.zero_le _) fun n : Fin 21 => iprop(semVal (snd n c) 0 ∗ srcAny (F := F) n c)]
  iintro ⟨#HR, Ho, Hi, Hb, Ht, Hs, Hr, Hk, Ha, Hu, Hd, He⟩ HQ
  icases Hd with ⟨⟨Hat, Hd0⟩, ⟨Hc, Hd1⟩, Hd2⟩
  iapply (wp_await I c (.inr (false, n)) (n := (chan n).amt) (by rw [← hd]; exact wpE_waitDma2_eq 𝒱₀ (c : Thread nD τ) none Set.univ) (by rw [expect_copy, Nat.zero_add])
    (mayWait c _ 0 b i 0 (lv_cell c (.inr (false, n)) ()) (fun h => by decide)
      (fun n' _ => by unfold clev; dsimp only; split <;> [decide; (split <;> decide)]) (by decide))) $$ [Hc Ho Hat]
  · isplitr; · iexact HR
    isplitl [Hc]; · iexact Hc
    isplitl [Ho]; · iexact Ho
    iexact Hat
  iintro ⟨Ho, Hz, Hp⟩
  ihave Hp := (sep_elim (S := dut (.inr (false, n))) (i := 0) (Φ := pay I c (.inr (false, n))) (Finset.mem_singleton_self _)) $$ Hp
  iapply HQ
  isplitr; · iexact HR
  isplitl [Ho]; · iexact Ho
  isplitl [Hi]; · iexact Hi
  isplitl [Hb]; · iexact Hb
  isplitl [Ht]; · iexact Ht
  isplitl [Hs]; · iexact Hs
  isplitl [Hr]; · iexact Hr
  isplitl [Hk]; · iexact Hk
  isplitl [Ha]; · iexact Ha
  isplitl [Hu]; · iexact Hu
  isplitl [Hz Hp Hd0 Hd1 Hd2]
  · isplitl [Hd0]; · iexact Hd0
    isplitl [Hd1]; · iexact Hd1
    isplitl [Hz Hp]
    · isplitl [Hz]; · iexact Hz
      iapply (Entails.of_eq (show pay I c (.inr (false, n)) 0 = srcAny n c from rfl)); iexact Hp
    iexact Hd2
  iexact He

end Steps

end Cert.Cube
-- ==== Proof.First.lean ====
/-
# The exchange kernel's body, 1: the handshake and the first sends

Each theorem follows one stretch of the body, operation by operation: from the state at the first stage to the state
at the second, with what the stretch hands on.
-/
module

public import proofs.«01_k».proof.Proof.Sync

@[expose] public section

set_option maxRecDepth 10000

noncomputable section

namespace Cert.Cube

open Cert.KernelIdeal Cert.KernelIdeal.Gen
open Idealize.ShloMosaic
open Idealize.ShloMosaic.TcCoe
open Idealize.SL.Sem

variable {F : FTy → Type} [FloatOps F] (I : Ins F) (c : Dev nD)

/-- Part 1 signals two partners. -/
theorem part1 : Run I c ⟨0, 0, 0, 0, 0, 0, 0, 0, 0, 0⟩ (on (k0_part1 (F := F))) (fun p => c = p.1 ∧ p.2.2.1 = SemArray.scalar (sig.barrier 0 rfl)) ⟨2, 0, 0, 0, 0, 0, 0, 0, 0, 0⟩ := by
  unfold on; rw [k0_part1_eq_skeleton]; unfold k0_part1_skel
  simp only [semSignalWord, semWaitWord, Prog.lift, Prog.bind_op, Prog.bind_ret, Prog.pure_eq_ret]
  refine Run.device I c ?_
  refine Run.signal I c 0 rfl (dev1_eq c) rfl ?_
  refine Run.signal I c 1 rfl (dev2_eq c) rfl ?_
  exact Run.ret I c ⟨rfl, rfl⟩

/-- Part 2 signals the third partner, fills slot 0, waits for the partners. -/
theorem part2 (w1 w2 w3 w4 w5) : Run I c ⟨2, 0, 0, 0, 0, 0, 0, 0, 0, 0⟩ (on (k0_part2 (F := F)) c w1 (SemArray.scalar (sig.barrier 0 rfl)) w2 w3 w4 w5) (fun _ => True) ⟨4, 1, 0, 0, 0, 0, 0, 0, 0, 0⟩ := by
  unfold on; rw [k0_part2_eq_skeleton]; unfold k0_part2_skel
  simp only [semSignalWord, semWaitWord, Prog.lift, Prog.bind_op, Prog.bind_ret, Prog.pure_eq_ret]
  refine Run.signal I c 2 rfl (dev3_eq c) rfl ?_
  refine Run.load_x I c 7 ?_
  refine Run.load_w I c 0 ?_
  refine Run.peek_src I c 0 rfl fun _ => ?_
  refine Run.store_src I c 0 (by decide) rfl ?_
  refine Run.enter I c (by decide) rfl ?_
  exact Run.ret I c trivial

/-- Part 3 sends copy 0, computes slot 1. -/
theorem part3 (w1 w2 w3 w4) : Run I c ⟨4, 1, 0, 0, 0, 0, 0, 0, 0, 0⟩ (on (k0_part3 (F := F)) c w1 w2 w3 w4) (fun v => v = sent I c 1) ⟨4, 1, 1, 0, 0, 0, 0, 0, 0, 0⟩ := by
  unfold on; rw [k0_part3_eq_skeleton]; unfold k0_part3_skel
  simp only [semSignalWord, semWaitWord, Prog.lift, Prog.bind_op, Prog.bind_ret, Prog.pure_eq_ret]
  refine Run.start I c 0 (by decide) (dev4_eq c) rfl rfl ?_
  refine Run.load_x I c 7 ?_
  refine Run.load_w I c 1 ?_
  refine Run.peek_src I c 1 rfl fun _ => ?_
  exact Run.ret I c rfl

/-- Part 4 fills slot 1, sends copy 1, computes slot 2. -/
theorem part4 (w1) : Run I c ⟨4, 1, 1, 0, 0, 0, 0, 0, 0, 0⟩ (on (k0_part4 (F := F)) c w1 (sent I c 1)) (fun v => v = k0_pay3 (xch I 7 c) (wch I (grp 2) c)) ⟨4, 2, 2, 0, 0, 0, 0, 0, 0, 0⟩ := by
  unfold on; rw [k0_part4_eq_skeleton]; unfold k0_part4_skel
  simp only [semSignalWord, semWaitWord, Prog.lift, Prog.bind_op, Prog.bind_ret, Prog.pure_eq_ret]
  refine Run.store_src I c 1 (by decide) rfl ?_
  refine Run.start I c 1 (by decide) (dev5_eq c) rfl rfl ?_
  refine Run.load_x I c 7 ?_
  refine Run.load_w I c 2 ?_
  exact Run.ret I c rfl

/-- Part 5 fills slot 2, sends copy 2. -/
theorem part5 (w1) : Run I c ⟨4, 2, 2, 0, 0, 0, 0, 0, 0, 0⟩ (on (k0_part5 (F := F)) c w1 (k0_pay3 (xch I 7 c) (wch I (grp 2) c))) (fun _ => True) ⟨4, 3, 3, 0, 0, 0, 0, 0, 0, 0⟩ := by
  unfold on; rw [k0_part5_eq_skeleton]; unfold k0_part5_skel
  simp only [semSignalWord, semWaitWord, Prog.lift, Prog.bind_op, Prog.bind_ret, Prog.pure_eq_ret]
  refine Run.peek_src I c 2 rfl fun _ => ?_
  refine Run.store_src I c 2 (by decide) rfl ?_
  refine Run.start I c 2 (by decide) (dev6_eq c) rfl rfl ?_
  exact Run.ret I c trivial

/-- Part 6 fills slot 3, sends copy 3. -/
theorem part6 (w1 w2 w3) : Run I c ⟨4, 3, 3, 0, 0, 0, 0, 0, 0, 0⟩ (on (k0_part6 (F := F)) c w1 w2 w3) (fun _ => True) ⟨4, 4, 4, 0, 0, 0, 0, 0, 0, 0⟩ := by
  unfold on; rw [k0_part6_eq_skeleton]; unfold k0_part6_skel
  simp only [semSignalWord, semWaitWord, Prog.lift, Prog.bind_op, Prog.bind_ret, Prog.pure_eq_ret]
  refine Run.load_x I c 3 ?_
  refine Run.load_w I c 0 ?_
  refine Run.peek_src I c 3 rfl fun _ => ?_
  refine Run.store_src I c 3 (by decide) rfl ?_
  refine Run.start I c 3 (by decide) (dev7_eq c) rfl rfl ?_
  exact Run.ret I c trivial

/-- Part 7 fills slot 4. -/
theorem part7 (w1 w2) : Run I c ⟨4, 4, 4, 0, 0, 0, 0, 0, 0, 0⟩ (on (k0_part7 (F := F)) c w1 w2) (fun _ => True) ⟨4, 5, 4, 0, 0, 0, 0, 0, 0, 0⟩ := by
  unfold on; rw [k0_part7_eq_skeleton]; unfold k0_part7_skel
  simp only [semSignalWord, semWaitWord, Prog.lift, Prog.bind_op, Prog.bind_ret, Prog.pure_eq_ret]
  refine Run.load_x I c 6 ?_
  refine Run.load_w I c 1 ?_
  refine Run.peek_src I c 4 rfl fun _ => ?_
  refine Run.store_src I c 4 (by decide) rfl ?_
  exact Run.ret I c trivial

/-- Part 8 sends copy 4, fills slot 5. -/
theorem part8 (w1) : Run I c ⟨4, 5, 4, 0, 0, 0, 0, 0, 0, 0⟩ (on (k0_part8 (F := F)) c w1) (fun _ => True) ⟨4, 6, 5, 0, 0, 0, 0, 0, 0, 0⟩ := by
  unfold on; rw [k0_part8_eq_skeleton]; unfold k0_part8_skel
  simp only [semSignalWord, semWaitWord, Prog.lift, Prog.bind_op, Prog.bind_ret, Prog.pure_eq_ret]
  refine Run.start I c 4 (by decide) (dev8_eq c) rfl rfl ?_
  refine Run.load_x I c 5 ?_
  refine Run.load_w I c 2 ?_
  refine Run.peek_src I c 5 rfl fun _ => ?_
  refine Run.store_src I c 5 (by decide) rfl ?_
  exact Run.ret I c trivial

/-- Part 9 sends copy 5, fills slot 6. -/
theorem part9 (w1 w2) : Run I c ⟨4, 6, 5, 0, 0, 0, 0, 0, 0, 0⟩ (on (k0_part9 (F := F)) c w1 w2) (fun _ => True) ⟨4, 7, 6, 0, 0, 0, 0, 0, 0, 0⟩ := by
  unfold on; rw [k0_part9_eq_skeleton]; unfold k0_part9_skel
  simp only [semSignalWord, semWaitWord, Prog.lift, Prog.bind_op, Prog.bind_ret, Prog.pure_eq_ret]
  refine Run.start I c 5 (by decide) (dev9_eq c) rfl rfl ?_
  refine Run.load_x I c 5 ?_
  refine Run.load_w I c 0 ?_
  refine Run.peek_src I c 6 rfl fun _ => ?_
  refine Run.store_src I c 6 (by decide) rfl ?_
  exact Run.ret I c trivial

/-- Part 10 sends copy 6, computes slot 7. -/
theorem part10 (w1 w2 w3) : Run I c ⟨4, 7, 6, 0, 0, 0, 0, 0, 0, 0⟩ (on (k0_part10 (F := F)) c w1 w2 w3) (fun v => v = k0_pay9 (xch I 3 c) (wch I (grp 1) c)) ⟨4, 7, 7, 0, 0, 0, 0, 0, 0, 0⟩ := by
  unfold on; rw [k0_part10_eq_skeleton]; unfold k0_part10_skel
  simp only [semSignalWord, semWaitWord, Prog.lift, Prog.bind_op, Prog.bind_ret, Prog.pure_eq_ret]
  refine Run.start I c 6 (by decide) (dev10_eq c) rfl rfl ?_
  refine Run.load_x I c 3 ?_
  refine Run.load_w I c 1 ?_
  exact Run.ret I c rfl

/-- Part 11 fills slot 7, sends copy 7. -/
theorem part11 (w1) : Run I c ⟨4, 7, 7, 0, 0, 0, 0, 0, 0, 0⟩ (on (k0_part11 (F := F)) c w1 (k0_pay9 (xch I 3 c) (wch I (grp 1) c))) (fun v => v = k0_pay11 (xch I 6 c)) ⟨4, 8, 8, 0, 0, 0, 0, 0, 0, 0⟩ := by
  unfold on; rw [k0_part11_eq_skeleton]; unfold k0_part11_skel
  simp only [semSignalWord, semWaitWord, Prog.lift, Prog.bind_op, Prog.bind_ret, Prog.pure_eq_ret]
  refine Run.peek_src I c 7 rfl fun _ => ?_
  refine Run.store_src I c 7 (by decide) rfl ?_
  refine Run.start I c 7 (by decide) (dev11_eq c) rfl rfl ?_
  refine Run.load_x I c 6 ?_
  exact Run.ret I c rfl

/-- Part 12 fills slot 8, sends copy 8. -/
theorem part12 (w1) : Run I c ⟨4, 8, 8, 0, 0, 0, 0, 0, 0, 0⟩ (on (k0_part12 (F := F)) c w1 (k0_pay11 (xch I 6 c))) (fun _ => True) ⟨4, 9, 9, 0, 0, 0, 0, 0, 0, 0⟩ := by
  unfold on; rw [k0_part12_eq_skeleton]; unfold k0_part12_skel
  simp only [semSignalWord, semWaitWord, Prog.lift, Prog.bind_op, Prog.bind_ret, Prog.pure_eq_ret]
  refine Run.load_w I c 2 ?_
  refine Run.peek_src I c 8 rfl fun _ => ?_
  refine Run.store_src I c 8 (by decide) rfl ?_
  refine Run.start I c 8 (by decide) (dev12_eq c) rfl rfl ?_
  exact Run.ret I c trivial

/-- Part 13 fills slot 9. -/
theorem part13 (w1 w2 w3 w4 w5) : Run I c ⟨4, 9, 9, 0, 0, 0, 0, 0, 0, 0⟩ (on (k0_part13 (F := F)) c w1 w2 w3 w4 w5) (fun _ => True) ⟨4, 10, 9, 0, 0, 0, 0, 0, 0, 0⟩ := by
  unfold on; rw [k0_part13_eq_skeleton]; unfold k0_part13_skel
  simp only [semSignalWord, semWaitWord, Prog.lift, Prog.bind_op, Prog.bind_ret, Prog.pure_eq_ret]
  refine Run.load_x I c 1 ?_
  refine Run.load_w I c 0 ?_
  refine Run.peek_src I c 9 rfl fun _ => ?_
  refine Run.store_src I c 9 (by decide) rfl ?_
  exact Run.ret I c trivial

/-- Part 14 sends copy 9, fills slot 10. -/
theorem part14 (w1) : Run I c ⟨4, 10, 9, 0, 0, 0, 0, 0, 0, 0⟩ (on (k0_part14 (F := F)) c w1) (fun _ => True) ⟨4, 11, 10, 0, 0, 0, 0, 0, 0, 0⟩ := by
  unfold on; rw [k0_part14_eq_skeleton]; unfold k0_part14_skel
  simp only [semSignalWord, semWaitWord, Prog.lift, Prog.bind_op, Prog.bind_ret, Prog.pure_eq_ret]
  refine Run.start I c 9 (by decide) (dev13_eq c) rfl rfl ?_
  refine Run.load_x I c 2 ?_
  refine Run.load_w I c 1 ?_
  refine Run.peek_src I c 10 rfl fun _ => ?_
  refine Run.store_src I c 10 (by decide) rfl ?_
  exact Run.ret I c trivial

/-- Part 15 sends copy 10, fills slot 11. -/
theorem part15 (w1 w2) : Run I c ⟨4, 11, 10, 0, 0, 0, 0, 0, 0, 0⟩ (on (k0_part15 (F := F)) c w1 w2) (fun _ => True) ⟨4, 12, 11, 0, 0, 0, 0, 0, 0, 0⟩ := by
  unfold on; rw [k0_part15_eq_skeleton]; unfold k0_part15_skel
  simp only [semSignalWord, semWaitWord, Prog.lift, Prog.bind_op, Prog.bind_ret, Prog.pure_eq_ret]
  refine Run.start I c 10 (by decide) (dev14_eq c) rfl rfl ?_
  refine Run.load_x I c 4 ?_
  refine Run.load_w I c 2 ?_
  refine Run.peek_src I c 11 rfl fun _ => ?_
  refine Run.store_src I c 11 (by decide) rfl ?_
  exact Run.ret I c trivial

/-- Part 16 sends copy 11, and forms the first own product of group 0. -/
theorem part16 (w1 w2 w3 w4 w5) : Run I c ⟨4, 12, 11, 0, 0, 0, 0, 0, 0, 0⟩ (on (k0_part16 (F := F)) c w1 w2 w3 w4 w5) (fun p => p.1 = own I (grp 0) 0 c) ⟨4, 12, 12, 0, 0, 0, 0, 0, 0, 0⟩ := by
  unfold on; rw [k0_part16_eq_skeleton]; unfold k0_part16_skel
  simp only [semSignalWord, semWaitWord, Prog.lift, Prog.bind_op, Prog.bind_ret, Prog.pure_eq_ret]
  refine Run.start I c 11 (by decide) (dev15_eq c) rfl rfl ?_
  refine Run.load_x I c 6 ?_
  refine Run.load_w I c 0 ?_
  exact Run.ret I c rfl

end Cert.Cube
-- ==== Proof.Second.lean ====
/-
# The exchange kernel's body, 2: the own products and the second sends

Each theorem follows one stretch of the body, operation by operation: from the state at the first stage to the state
at the second, with what the stretch hands on.
-/
module

public import proofs.«01_k».proof.Proof.Sync

@[expose] public section

set_option maxRecDepth 10000

noncomputable section

namespace Cert.Cube

open Cert.KernelIdeal Cert.KernelIdeal.Gen
open Idealize.ShloMosaic
open Idealize.ShloMosaic.TcCoe
open Idealize.SL.Sem

variable {F : FTy → Type} [FloatOps F] (I : Ins F) (c : Dev nD)

/-- Part 17 forms two more. -/
theorem part17 (w1 w2 w3 w4 w5) : Run I c ⟨4, 12, 12, 0, 0, 0, 0, 0, 0, 0⟩ (on (k0_part17 (F := F)) c w1 w2 w3 w4 w5) (fun p => p.1 = own I (grp 0) 1 c ∧ p.2.1 = own I (grp 0) 2 c ∧ p.2.2 = k0_pay19 (xch I 0 c)) ⟨4, 12, 12, 0, 0, 0, 0, 0, 0, 0⟩ := by
  unfold on; rw [k0_part17_eq_skeleton]; unfold k0_part17_skel
  simp only [semSignalWord, semWaitWord, Prog.lift, Prog.bind_op, Prog.bind_ret, Prog.pure_eq_ret]
  refine Run.load_x I c 2 ?_
  refine Run.load_w I c 0 ?_
  refine Run.load_x I c 4 ?_
  refine Run.load_w I c 0 ?_
  refine Run.load_x I c 0 ?_
  exact Run.ret I c ⟨rfl, rfl, rfl⟩

/-- Part 18 forms the last of group 0 and two of group 1. -/
theorem part18 (w1) : Run I c ⟨4, 12, 12, 0, 0, 0, 0, 0, 0, 0⟩ (on (k0_part18 (F := F)) c w1 (k0_pay19 (xch I 0 c))) (fun p => p.1 = own I (grp 0) 3 c ∧ p.2.1 = own I (grp 1) 0 c ∧ p.2.2.1 = own I (grp 1) 1 c) ⟨4, 12, 12, 0, 0, 0, 0, 0, 0, 0⟩ := by
  unfold on; rw [k0_part18_eq_skeleton]; unfold k0_part18_skel
  simp only [semSignalWord, semWaitWord, Prog.lift, Prog.bind_op, Prog.bind_ret, Prog.pure_eq_ret]
  refine Run.load_w I c 0 ?_
  refine Run.load_x I c 5 ?_
  refine Run.load_w I c 1 ?_
  refine Run.load_x I c 4 ?_
  refine Run.load_w I c 1 ?_
  exact Run.ret I c ⟨rfl, rfl, rfl⟩

/-- Part 19 forms the other two of group 1. -/
theorem part19 (w1 w2 w3) : Run I c ⟨4, 12, 12, 0, 0, 0, 0, 0, 0, 0⟩ (on (k0_part19 (F := F)) c w1 w2 w3) (fun p => p.1 = own I (grp 1) 2 c ∧ p.2.1 = own I (grp 1) 3 c) ⟨4, 12, 12, 0, 0, 0, 0, 0, 0, 0⟩ := by
  unfold on; rw [k0_part19_eq_skeleton]; unfold k0_part19_skel
  simp only [semSignalWord, semWaitWord, Prog.lift, Prog.bind_op, Prog.bind_ret, Prog.pure_eq_ret]
  refine Run.load_x I c 1 ?_
  refine Run.load_w I c 1 ?_
  refine Run.load_x I c 0 ?_
  refine Run.load_w I c 1 ?_
  exact Run.ret I c ⟨rfl, rfl⟩

/-- Part 20 forms three of group 2. -/
theorem part20 (w1 w2) : Run I c ⟨4, 12, 12, 0, 0, 0, 0, 0, 0, 0⟩ (on (k0_part20 (F := F)) c w1 w2) (fun p => p.1 = own I (grp 2) 0 c ∧ p.2.1 = own I (grp 2) 1 c ∧ p.2.2 = k0_pay27 (xch I 2 c) (wch I (grp 2) c)) ⟨4, 12, 12, 0, 0, 0, 0, 0, 0, 0⟩ := by
  unfold on; rw [k0_part20_eq_skeleton]; unfold k0_part20_skel
  simp only [semSignalWord, semWaitWord, Prog.lift, Prog.bind_op, Prog.bind_ret, Prog.pure_eq_ret]
  refine Run.load_x I c 3 ?_
  refine Run.load_w I c 2 ?_
  refine Run.load_x I c 1 ?_
  refine Run.load_w I c 2 ?_
  refine Run.load_x I c 2 ?_
  refine Run.load_w I c 2 ?_
  exact Run.ret I c ⟨rfl, rfl, by dsimp only⟩

/-- A scalar loaded and then used is loaded with that use. -/
theorem smem_bind {α β : Type} {s : Shape} {e : EltTy} (m : Memref sig .tc .smem s e) (r : Rect s) (h : (m.access r).Loads) (x : r.shape.Idx)
    (k : Elt F e → Prog (TpuEff nD τ sig (Elt F) Λ₀ .tc) α) (g : α → Prog (TpuEff nD τ sig (Elt F) Λ₀ .tc) β) :
    (smemLoadElt m r h x k >>= g) = smemLoadElt m r h x fun v => k v >>= g := rfl

/-- Part 21 forms the last, and the product of the scales. -/
theorem part21 (w1) : Run I c ⟨4, 12, 12, 0, 0, 0, 0, 0, 0, 0⟩ (on (k0_part21 (F := F)) c w1 (k0_pay27 (xch I 2 c) (wch I (grp 2) c))) (fun p => p.1 = own I (grp 2) 2 c ∧ p.2.1 = own I (grp 2) 3 c ∧ p.2.2 = scl I c) ⟨4, 12, 12, 0, 0, 0, 0, 0, 0, 0⟩ := by
  unfold on; rw [k0_part21_eq_skeleton]; unfold k0_part21_skel
  simp only [semSignalWord, semWaitWord, smemLoad, smem_bind, Prog.lift, Prog.bind_op, Prog.bind_ret, Prog.pure_eq_ret]
  refine Run.load_x I c 0 ?_
  refine Run.load_w I c 2 ?_
  refine Run.load_a I c ?_
  refine Run.load_b I c ?_
  exact Run.ret I c ⟨rfl, rfl, rfl⟩

/-- Part 22 receives copy 0, fills slot 12, sends copy 12. -/
theorem part22 (w1) : Run I c ⟨4, 12, 12, 0, 0, 0, 0, 0, 0, 0⟩ (on (k0_part22 (F := F)) c w1 (own I (grp 0) 0 c)) (fun _ => True) ⟨4, 13, 13, 1, 0, 0, 0, 0, 0, 0⟩ := by
  unfold on; rw [k0_part22_eq_skeleton]; unfold k0_part22_skel
  simp only [semSignalWord, semWaitWord, Prog.lift, Prog.bind_op, Prog.bind_ret, Prog.pure_eq_ret]
  refine Run.arrive I c 0 (by decide) (by decide) rfl rfl ?_
  refine Run.load_rcv I c 0 (by decide) ?_
  refine Run.peek_src I c 12 rfl fun _ => ?_
  refine Run.store_src I c 12 (by decide) rfl ?_
  refine Run.start I c 12 (by decide) (dev16_eq c) rfl rfl ?_
  exact Run.ret I c trivial

/-- Part 23 receives copy 1, fills slot 13. -/
theorem part23 (w1 w2 w3) : Run I c ⟨4, 13, 13, 1, 0, 0, 0, 0, 0, 0⟩ (on (k0_part23 (F := F)) w1 (own I (grp 1) 0 c) w2 w3) (fun _ => True) ⟨4, 14, 13, 2, 0, 0, 0, 0, 0, 0⟩ := by
  unfold on; rw [k0_part23_eq_skeleton]; unfold k0_part23_skel
  simp only [semSignalWord, semWaitWord, Prog.lift, Prog.bind_op, Prog.bind_ret, Prog.pure_eq_ret]
  refine Run.arrive I c 1 (by decide) (by decide) rfl rfl ?_
  refine Run.load_rcv I c 1 (by decide) ?_
  refine Run.peek_src I c 13 rfl fun _ => ?_
  refine Run.store_src I c 13 (by decide) rfl ?_
  exact Run.ret I c trivial

/-- Part 24 sends copy 13, receives copy 2. -/
theorem part24 (w1 w2) : Run I c ⟨4, 14, 13, 2, 0, 0, 0, 0, 0, 0⟩ (on (k0_part24 (F := F)) c w1 w2) (fun v => v = sent I (peer 2 c) 2) ⟨4, 14, 14, 3, 0, 0, 0, 0, 0, 0⟩ := by
  unfold on; rw [k0_part24_eq_skeleton]; unfold k0_part24_skel
  simp only [semSignalWord, semWaitWord, Prog.lift, Prog.bind_op, Prog.bind_ret, Prog.pure_eq_ret]
  refine Run.start I c 13 (by decide) (dev17_eq c) rfl rfl ?_
  refine Run.arrive I c 2 (by decide) (by decide) rfl rfl ?_
  refine Run.load_rcv I c 2 (by decide) ?_
  exact Run.ret I c rfl

/-- Part 25 fills slot 14, sends copy 14. -/
theorem part25 (w1) : Run I c ⟨4, 14, 14, 3, 0, 0, 0, 0, 0, 0⟩ (on (k0_part25 (F := F)) c w1 (own I (grp 2) 0 c) (sent I (peer 2 c) 2)) (fun _ => True) ⟨4, 15, 15, 3, 0, 0, 0, 0, 0, 0⟩ := by
  unfold on; rw [k0_part25_eq_skeleton]; unfold k0_part25_skel
  simp only [semSignalWord, semWaitWord, Prog.lift, Prog.bind_op, Prog.bind_ret, Prog.pure_eq_ret]
  refine Run.peek_src I c 14 rfl fun _ => ?_
  refine Run.store_src I c 14 (by decide) rfl ?_
  refine Run.start I c 14 (by decide) (dev18_eq c) rfl rfl ?_
  exact Run.ret I c trivial

/-- Part 26 receives copy 3, fills slot 15. -/
theorem part26 (w1 w2 w3) : Run I c ⟨4, 15, 15, 3, 0, 0, 0, 0, 0, 0⟩ (on (k0_part26 (F := F)) w1 (own I (grp 0) 1 c) w2 w3) (fun _ => True) ⟨4, 16, 15, 4, 0, 0, 0, 0, 0, 0⟩ := by
  unfold on; rw [k0_part26_eq_skeleton]; unfold k0_part26_skel
  simp only [semSignalWord, semWaitWord, Prog.lift, Prog.bind_op, Prog.bind_ret, Prog.pure_eq_ret]
  refine Run.arrive I c 3 (by decide) (by decide) rfl rfl ?_
  refine Run.load_rcv I c 3 (by decide) ?_
  refine Run.peek_src I c 15 rfl fun _ => ?_
  refine Run.store_src I c 15 (by decide) rfl ?_
  exact Run.ret I c trivial

/-- Part 27 sends copy 15, receives copy 4. -/
theorem part27 (w1 w2) : Run I c ⟨4, 16, 15, 4, 0, 0, 0, 0, 0, 0⟩ (on (k0_part27 (F := F)) c w1 (own I (grp 1) 1 c) w2) (fun v => v = k0_pay35 (own I (grp 1) 1 c) (sent I (peer 4 c) 4)) ⟨4, 16, 16, 5, 0, 0, 0, 0, 0, 0⟩ := by
  unfold on; rw [k0_part27_eq_skeleton]; unfold k0_part27_skel
  simp only [semSignalWord, semWaitWord, Prog.lift, Prog.bind_op, Prog.bind_ret, Prog.pure_eq_ret]
  refine Run.start I c 15 (by decide) (dev19_eq c) rfl rfl ?_
  refine Run.arrive I c 4 (by decide) (by decide) rfl rfl ?_
  refine Run.load_rcv I c 4 (by decide) ?_
  exact Run.ret I c rfl

/-- Part 28 fills slot 16, sends copy 16. -/
theorem part28 (w1) : Run I c ⟨4, 16, 16, 5, 0, 0, 0, 0, 0, 0⟩ (on (k0_part28 (F := F)) c w1 (k0_pay35 (own I (grp 1) 1 c) (sent I (peer 4 c) 4))) (fun _ => True) ⟨4, 17, 17, 5, 0, 0, 0, 0, 0, 0⟩ := by
  unfold on; rw [k0_part28_eq_skeleton]; unfold k0_part28_skel
  simp only [semSignalWord, semWaitWord, Prog.lift, Prog.bind_op, Prog.bind_ret, Prog.pure_eq_ret]
  refine Run.peek_src I c 16 rfl fun _ => ?_
  refine Run.store_src I c 16 (by decide) rfl ?_
  refine Run.start I c 16 (by decide) (dev20_eq c) rfl rfl ?_
  exact Run.ret I c trivial

/-- Part 29 receives copy 5, fills slot 17. -/
theorem part29 (w1 w2 w3) : Run I c ⟨4, 17, 17, 5, 0, 0, 0, 0, 0, 0⟩ (on (k0_part29 (F := F)) w1 (own I (grp 2) 1 c) w2 w3) (fun _ => True) ⟨4, 18, 17, 6, 0, 0, 0, 0, 0, 0⟩ := by
  unfold on; rw [k0_part29_eq_skeleton]; unfold k0_part29_skel
  simp only [semSignalWord, semWaitWord, Prog.lift, Prog.bind_op, Prog.bind_ret, Prog.pure_eq_ret]
  refine Run.arrive I c 5 (by decide) (by decide) rfl rfl ?_
  refine Run.load_rcv I c 5 (by decide) ?_
  refine Run.peek_src I c 17 rfl fun _ => ?_
  refine Run.store_src I c 17 (by decide) rfl ?_
  exact Run.ret I c trivial

/-- Part 30 sends copy 17, receives copy 6, keeps the sum of group 0. -/
theorem part30 (w1) : Run I c ⟨4, 18, 17, 6, 0, 0, 0, 0, 0, 0⟩ (on (k0_part30 (F := F)) c w1 (own I (grp 0) 2 c)) (fun _ => True) ⟨4, 18, 18, 7, 1, 0, 0, 0, 0, 0⟩ := by
  unfold on; rw [k0_part30_eq_skeleton]; unfold k0_part30_skel
  simp only [semSignalWord, semWaitWord, Prog.lift, Prog.bind_op, Prog.bind_ret, Prog.pure_eq_ret]
  refine Run.start I c 17 (by decide) (dev21_eq c) rfl rfl ?_
  refine Run.arrive I c 6 (by decide) (by decide) rfl rfl ?_
  refine Run.load_rcv I c 6 (by decide) ?_
  refine Run.peek_keep I c 0 rfl fun _ => ?_
  refine Run.store_keep I c 0 rfl rfl ?_
  exact Run.ret I c trivial

/-- Part 31 receives copy 7, keeps the sum of group 1. -/
theorem part31 (w1 w2 w3) : Run I c ⟨4, 18, 18, 7, 1, 0, 0, 0, 0, 0⟩ (on (k0_part31 (F := F)) w1 (own I (grp 1) 2 c) w2 w3) (fun _ => True) ⟨4, 18, 18, 8, 2, 0, 0, 0, 0, 0⟩ := by
  unfold on; rw [k0_part31_eq_skeleton]; unfold k0_part31_skel
  simp only [semSignalWord, semWaitWord, Prog.lift, Prog.bind_op, Prog.bind_ret, Prog.pure_eq_ret]
  refine Run.arrive I c 7 (by decide) (by decide) rfl rfl ?_
  refine Run.load_rcv I c 7 (by decide) ?_
  refine Run.peek_keep I c 1 rfl fun _ => ?_
  refine Run.store_keep I c 1 rfl rfl ?_
  exact Run.ret I c trivial

/-- Part 32 receives copy 8, keeps the sum of group 2. -/
theorem part32 (w1 w2) : Run I c ⟨4, 18, 18, 8, 2, 0, 0, 0, 0, 0⟩ (on (k0_part32 (F := F)) w1 (own I (grp 2) 2 c) w2) (fun _ => True) ⟨4, 18, 18, 9, 3, 0, 0, 0, 0, 0⟩ := by
  unfold on; rw [k0_part32_eq_skeleton]; unfold k0_part32_skel
  simp only [semSignalWord, semWaitWord, Prog.lift, Prog.bind_op, Prog.bind_ret, Prog.pure_eq_ret]
  refine Run.arrive I c 8 (by decide) (by decide) rfl rfl ?_
  refine Run.load_rcv I c 8 (by decide) ?_
  refine Run.peek_keep I c 2 rfl fun _ => ?_
  refine Run.store_keep I c 2 rfl rfl ?_
  exact Run.ret I c trivial

/-- Part 33 receives copies 9 and 10, accumulates group 0. -/
theorem part33 (w1) : Run I c ⟨4, 18, 18, 9, 3, 0, 0, 0, 0, 0⟩ (on (k0_part33 (F := F)) w1 (own I (grp 0) 3 c)) (fun v => v = sent I (peer 10 c) 10) ⟨4, 18, 18, 11, 3, 1, 0, 0, 0, 0⟩ := by
  unfold on; rw [k0_part33_eq_skeleton]; unfold k0_part33_skel
  simp only [semSignalWord, semWaitWord, Prog.lift, Prog.bind_op, Prog.bind_ret, Prog.pure_eq_ret]
  refine Run.arrive I c 9 (by decide) (by decide) rfl rfl ?_
  refine Run.load_rcv I c 9 (by decide) ?_
  refine Run.peek_acc I c 0 rfl fun _ => ?_
  refine Run.store_acc I c 0 (by decide) rfl ?_
  refine Run.arrive I c 10 (by decide) (by decide) rfl rfl ?_
  refine Run.load_rcv I c 10 (by decide) ?_
  exact Run.ret I c rfl

end Cert.Cube
-- ==== Proof.Third.lean ====
/-
# The exchange kernel's body, 3: the last sums, the result and the departures

Each theorem follows one stretch of the body, operation by operation: from the state at the first stage to the state
at the second, with what the stretch hands on.
-/
module

public import proofs.«01_k».proof.Proof.Sync

@[expose] public section

set_option maxRecDepth 10000

noncomputable section

namespace Cert.Cube

open Cert.KernelIdeal Cert.KernelIdeal.Gen
open Idealize.ShloMosaic
open Idealize.ShloMosaic.TcCoe
open Idealize.SL.Sem

variable {F : FTy → Type} [FloatOps F] (I : Ins F) (c : Dev nD)

/-- Part 34 accumulates group 1, receives copy 11. -/
theorem part34 (w1) : Run I c ⟨4, 18, 18, 11, 3, 1, 0, 0, 0, 0⟩ (on (k0_part34 (F := F)) w1 (own I (grp 1) 3 c) (own I (grp 2) 3 c) (sent I (peer 10 c) 10)) (fun v => v = keep8 I (grp 2) 3 c) ⟨4, 18, 18, 12, 3, 2, 0, 0, 0, 0⟩ := by
  unfold on; rw [k0_part34_eq_skeleton]; unfold k0_part34_skel
  simp only [semSignalWord, semWaitWord, Prog.lift, Prog.bind_op, Prog.bind_ret, Prog.pure_eq_ret]
  refine Run.peek_acc I c 1 rfl fun _ => ?_
  refine Run.store_acc I c 1 (by decide) rfl ?_
  refine Run.arrive I c 11 (by decide) (by decide) rfl rfl ?_
  refine Run.load_rcv I c 11 (by decide) ?_
  refine Run.peek_acc I c 2 rfl fun _ => ?_
  exact Run.ret I c rfl

/-- Part 35 accumulates group 2, receives copy 12, fills slot 18. -/
theorem part35 (w1) : Run I c ⟨4, 18, 18, 12, 3, 2, 0, 0, 0, 0⟩ (on (k0_part35 (F := F)) w1 (keep8 I (grp 2) 3 c)) (fun _ => True) ⟨4, 19, 18, 13, 3, 3, 0, 0, 0, 0⟩ := by
  unfold on; rw [k0_part35_eq_skeleton]; unfold k0_part35_skel
  simp only [semSignalWord, semWaitWord, Prog.lift, Prog.bind_op, Prog.bind_ret, Prog.pure_eq_ret]
  refine Run.store_acc I c 2 (by decide) rfl ?_
  refine Run.arrive I c 12 (by decide) (by decide) rfl rfl ?_
  refine Run.load_keep I c 0 (by decide) ?_
  refine Run.load_rcv I c 12 (by decide) ?_
  refine Run.peek_src I c 18 rfl fun _ => ?_
  refine Run.store_src I c 18 (by decide) rfl ?_
  exact Run.ret I c trivial

/-- Part 36 sends copy 18, receives copy 13. -/
theorem part36 (w1 w2 w3 w4) : Run I c ⟨4, 19, 18, 13, 3, 3, 0, 0, 0, 0⟩ (on (k0_part36 (F := F)) c w1 w2 w3 w4) (fun _ => True) ⟨4, 19, 19, 14, 3, 3, 0, 0, 0, 0⟩ := by
  unfold on; rw [k0_part36_eq_skeleton]; unfold k0_part36_skel
  simp only [semSignalWord, semWaitWord, Prog.lift, Prog.bind_op, Prog.bind_ret, Prog.pure_eq_ret]
  refine Run.start I c 18 (by decide) (dev22_eq c) rfl rfl ?_
  refine Run.arrive I c 13 (by decide) (by decide) rfl rfl ?_
  exact Run.ret I c trivial

/-- Part 37 fills slot 19, sends copy 19. -/
theorem part37 (w1) : Run I c ⟨4, 19, 19, 14, 3, 3, 0, 0, 0, 0⟩ (on (k0_part37 (F := F)) c w1) (fun _ => True) ⟨4, 20, 20, 14, 3, 3, 0, 0, 0, 0⟩ := by
  unfold on; rw [k0_part37_eq_skeleton]; unfold k0_part37_skel
  simp only [semSignalWord, semWaitWord, Prog.lift, Prog.bind_op, Prog.bind_ret, Prog.pure_eq_ret]
  refine Run.load_keep I c 1 (by decide) ?_
  refine Run.load_rcv I c 13 (by decide) ?_
  refine Run.peek_src I c 19 rfl fun _ => ?_
  refine Run.store_src I c 19 (by decide) rfl ?_
  refine Run.start I c 19 (by decide) (dev23_eq c) rfl rfl ?_
  exact Run.ret I c trivial

/-- Part 38 receives copy 14, fills slot 20. -/
theorem part38 (w1 w2 w3 w4 w5) : Run I c ⟨4, 20, 20, 14, 3, 3, 0, 0, 0, 0⟩ (on (k0_part38 (F := F)) w1 w2 w3 w4 w5) (fun _ => True) ⟨4, 21, 20, 15, 3, 3, 0, 0, 0, 0⟩ := by
  unfold on; rw [k0_part38_eq_skeleton]; unfold k0_part38_skel
  simp only [semSignalWord, semWaitWord, Prog.lift, Prog.bind_op, Prog.bind_ret, Prog.pure_eq_ret]
  refine Run.arrive I c 14 (by decide) (by decide) rfl rfl ?_
  refine Run.load_keep I c 2 (by decide) ?_
  refine Run.load_rcv I c 14 (by decide) ?_
  refine Run.peek_src I c 20 rfl fun _ => ?_
  refine Run.store_src I c 20 (by decide) rfl ?_
  exact Run.ret I c trivial

/-- Part 39 sends copy 20, receives copy 15. -/
theorem part39 (w1 w2) : Run I c ⟨4, 21, 20, 15, 3, 3, 0, 0, 0, 0⟩ (on (k0_part39 (F := F)) c w1 w2) (fun p => p.1 = keep8 I (grp 0) 3 c ∧ p.2 = k0_pay47 (sent I (peer 15 c) 15)) ⟨4, 21, 21, 16, 3, 3, 0, 0, 0, 0⟩ := by
  unfold on; rw [k0_part39_eq_skeleton]; unfold k0_part39_skel
  simp only [semSignalWord, semWaitWord, Prog.lift, Prog.bind_op, Prog.bind_ret, Prog.pure_eq_ret]
  refine Run.start I c 20 (by decide) (dev24_eq c) rfl rfl ?_
  refine Run.arrive I c 15 (by decide) (by decide) rfl rfl ?_
  refine Run.load_acc8 I c 0 (by decide) ?_
  refine Run.load_rcv I c 15 (by decide) ?_
  exact Run.ret I c ⟨rfl, rfl⟩

/-- Part 40 adds it to group 0, receives copy 16, adds it to group 1. -/
theorem part40 (w1) : Run I c ⟨4, 21, 21, 16, 3, 3, 0, 0, 0, 0⟩ (on (k0_part40 (F := F)) w1 (keep8 I (grp 0) 3 c) (k0_pay47 (sent I (peer 15 c) 15))) (fun _ => True) ⟨4, 21, 21, 17, 3, 3, 2, 0, 0, 0⟩ := by
  unfold on; rw [k0_part40_eq_skeleton]; unfold k0_part40_skel
  simp only [semSignalWord, semWaitWord, Prog.lift, Prog.bind_op, Prog.bind_ret, Prog.pure_eq_ret]
  refine Run.load_acc8 I c 0 (by decide) ?_
  refine Run.store_acc16 I c 0 (by decide) rfl ?_
  refine Run.arrive I c 16 (by decide) (by decide) rfl rfl ?_
  refine Run.load_acc8 I c 1 (by decide) ?_
  refine Run.load_rcv I c 16 (by decide) ?_
  refine Run.load_acc8 I c 1 (by decide) ?_
  refine Run.store_acc16 I c 1 (by decide) rfl ?_
  exact Run.ret I c trivial

/-- Part 41 receives copy 17, adds it to group 2. -/
theorem part41 (w1 w2 w3) : Run I c ⟨4, 21, 21, 17, 3, 3, 2, 0, 0, 0⟩ (on (k0_part41 (F := F)) w1 w2 w3) (fun _ => True) ⟨4, 21, 21, 18, 3, 3, 3, 0, 0, 0⟩ := by
  unfold on; rw [k0_part41_eq_skeleton]; unfold k0_part41_skel
  simp only [semSignalWord, semWaitWord, Prog.lift, Prog.bind_op, Prog.bind_ret, Prog.pure_eq_ret]
  refine Run.arrive I c 17 (by decide) (by decide) rfl rfl ?_
  refine Run.load_acc8 I c 2 (by decide) ?_
  refine Run.load_rcv I c 17 (by decide) ?_
  refine Run.load_acc8 I c 2 (by decide) ?_
  refine Run.store_acc16 I c 2 (by decide) rfl ?_
  exact Run.ret I c trivial

/-- Part 42 receives copy 18, stores the result of group 0. -/
theorem part42 (w1 w2) : Run I c ⟨4, 21, 21, 18, 3, 3, 3, 0, 0, 0⟩ (on (k0_part42 (F := F)) w1 (scl I c) w2) (fun _ => True) ⟨4, 21, 21, 19, 3, 3, 3, 1, 0, 0⟩ := by
  unfold on; rw [k0_part42_eq_skeleton]; unfold k0_part42_skel
  simp only [semSignalWord, semWaitWord, Prog.lift, Prog.bind_op, Prog.bind_ret, Prog.pure_eq_ret]
  refine Run.arrive I c 18 (by decide) (by decide) rfl rfl ?_
  refine Run.load_acc16 I c 0 (by decide) ?_
  refine Run.load_rcv I c 18 (by decide) ?_
  refine Run.peek_out I c 0 rfl fun _ => ?_
  refine Run.store_out I c 0 rfl rfl ?_
  exact Run.ret I c trivial

/-- Part 43 receives copy 19, stores the result of group 1. -/
theorem part43 (w1 w2) : Run I c ⟨4, 21, 21, 19, 3, 3, 3, 1, 0, 0⟩ (on (k0_part43 (F := F)) w1 (scl I c) w2) (fun _ => True) ⟨4, 21, 21, 20, 3, 3, 3, 2, 0, 0⟩ := by
  unfold on; rw [k0_part43_eq_skeleton]; unfold k0_part43_skel
  simp only [semSignalWord, semWaitWord, Prog.lift, Prog.bind_op, Prog.bind_ret, Prog.pure_eq_ret]
  refine Run.arrive I c 19 (by decide) (by decide) rfl rfl ?_
  refine Run.load_acc16 I c 1 (by decide) ?_
  refine Run.load_rcv I c 19 (by decide) ?_
  refine Run.peek_out I c 1 rfl fun _ => ?_
  refine Run.store_out I c 1 rfl rfl ?_
  exact Run.ret I c trivial

/-- Part 44 receives copy 20, stores the result of group 2, waits for departure 0. -/
theorem part44 (w1) : Run I c ⟨4, 21, 21, 20, 3, 3, 3, 2, 0, 0⟩ (on (k0_part44 (F := F)) (scl I c) w1) (fun _ => True) ⟨4, 21, 21, 21, 3, 3, 3, 3, 1, 0⟩ := by
  unfold on; rw [k0_part44_eq_skeleton]; unfold k0_part44_skel
  simp only [semSignalWord, semWaitWord, Prog.lift, Prog.bind_op, Prog.bind_ret, Prog.pure_eq_ret]
  refine Run.arrive I c 20 (by decide) (by decide) rfl rfl ?_
  refine Run.load_acc16 I c 2 (by decide) ?_
  refine Run.load_rcv I c 20 (by decide) ?_
  refine Run.peek_out I c 2 rfl fun _ => ?_
  refine Run.store_out I c 2 rfl rfl ?_
  refine Run.depart I c 0 (by decide) rfl (by rfl) ?_
  exact Run.ret I c trivial

/-- Part 45 waits for departures 1 to 3. -/
theorem part45 : Run I c ⟨4, 21, 21, 21, 3, 3, 3, 3, 1, 0⟩ (on (k0_part45 (F := F))) (fun _ => True) ⟨4, 21, 21, 21, 3, 3, 3, 3, 4, 0⟩ := by
  unfold on; rw [k0_part45_eq_skeleton]; unfold k0_part45_skel
  simp only [semSignalWord, semWaitWord, Prog.lift, Prog.bind_op, Prog.bind_ret, Prog.pure_eq_ret]
  refine Run.depart I c 1 (by decide) rfl (by rfl) ?_
  refine Run.depart I c 2 (by decide) rfl (by rfl) ?_
  refine Run.depart I c 3 (by decide) rfl (by rfl) ?_
  exact Run.ret I c trivial

/-- Part 46 waits for departures 4 to 6. -/
theorem part46 : Run I c ⟨4, 21, 21, 21, 3, 3, 3, 3, 4, 0⟩ (on (k0_part46 (F := F))) (fun _ => True) ⟨4, 21, 21, 21, 3, 3, 3, 3, 7, 0⟩ := by
  unfold on; rw [k0_part46_eq_skeleton]; unfold k0_part46_skel
  simp only [semSignalWord, semWaitWord, Prog.lift, Prog.bind_op, Prog.bind_ret, Prog.pure_eq_ret]
  refine Run.depart I c 4 (by decide) rfl (by rfl) ?_
  refine Run.depart I c 5 (by decide) rfl (by rfl) ?_
  refine Run.depart I c 6 (by decide) rfl (by rfl) ?_
  exact Run.ret I c trivial

/-- Part 47 waits for departures 7 to 10. -/
theorem part47 : Run I c ⟨4, 21, 21, 21, 3, 3, 3, 3, 7, 0⟩ (on (k0_part47 (F := F))) (fun _ => True) ⟨4, 21, 21, 21, 3, 3, 3, 3, 11, 0⟩ := by
  unfold on; rw [k0_part47_eq_skeleton]; unfold k0_part47_skel
  simp only [semSignalWord, semWaitWord, Prog.lift, Prog.bind_op, Prog.bind_ret, Prog.pure_eq_ret]
  refine Run.depart I c 7 (by decide) rfl (by rfl) ?_
  refine Run.depart I c 8 (by decide) rfl (by rfl) ?_
  refine Run.depart I c 9 (by decide) rfl (by rfl) ?_
  refine Run.depart I c 10 (by decide) rfl (by rfl) ?_
  exact Run.ret I c trivial

/-- Part 48 waits for departures 11 to 13. -/
theorem part48 : Run I c ⟨4, 21, 21, 21, 3, 3, 3, 3, 11, 0⟩ (on (k0_part48 (F := F))) (fun _ => True) ⟨4, 21, 21, 21, 3, 3, 3, 3, 14, 0⟩ := by
  unfold on; rw [k0_part48_eq_skeleton]; unfold k0_part48_skel
  simp only [semSignalWord, semWaitWord, Prog.lift, Prog.bind_op, Prog.bind_ret, Prog.pure_eq_ret]
  refine Run.depart I c 11 (by decide) rfl (by rfl) ?_
  refine Run.depart I c 12 (by decide) rfl (by rfl) ?_
  refine Run.depart I c 13 (by decide) rfl (by rfl) ?_
  exact Run.ret I c trivial

/-- Part 49 waits for departures 14 to 16. -/
theorem part49 : Run I c ⟨4, 21, 21, 21, 3, 3, 3, 3, 14, 0⟩ (on (k0_part49 (F := F))) (fun _ => True) ⟨4, 21, 21, 21, 3, 3, 3, 3, 17, 0⟩ := by
  unfold on; rw [k0_part49_eq_skeleton]; unfold k0_part49_skel
  simp only [semSignalWord, semWaitWord, Prog.lift, Prog.bind_op, Prog.bind_ret, Prog.pure_eq_ret]
  refine Run.depart I c 14 (by decide) rfl (by rfl) ?_
  refine Run.depart I c 15 (by decide) rfl (by rfl) ?_
  refine Run.depart I c 16 (by decide) rfl (by rfl) ?_
  exact Run.ret I c trivial

/-- Part 50 waits for departures 17 to 20. -/
theorem part50 (w1) : Run I c ⟨4, 21, 21, 21, 3, 3, 3, 3, 17, 0⟩ (on (k0_part50 (F := F)) w1) (fun _ => True) ⟨4, 21, 21, 21, 3, 3, 3, 3, 21, 0⟩ := by
  unfold on; rw [k0_part50_eq_skeleton]; unfold k0_part50_skel
  simp only [semSignalWord, semWaitWord, Prog.lift, Prog.bind_op, Prog.bind_ret, Prog.pure_eq_ret]
  refine Run.depart I c 17 (by decide) rfl (by rfl) ?_
  refine Run.depart I c 18 (by decide) rfl (by rfl) ?_
  refine Run.depart I c 19 (by decide) rfl (by rfl) ?_
  refine Run.depart I c 20 (by decide) rfl (by rfl) ?_
  exact Run.ret I c trivial

end Cert.Cube
-- ==== Proof.Body.lean ====
/-
# The exchange kernel's body, 4: all of it
-/
module

public import proofs.«01_k».proof.Proof.First
public import proofs.«01_k».proof.Proof.Second
public import proofs.«01_k».proof.Proof.Third

@[expose] public section

set_option maxRecDepth 10000

noncomputable section

namespace Cert.Cube

open Cert.KernelIdeal Cert.KernelIdeal.Gen
open Idealize.ShloMosaic
open Idealize.ShloMosaic.TcCoe
open Idealize.SL.Sem

variable {F : FTy → Type} [FloatOps F] (I : Ins F) (c : Dev nD)

/-- From the first stage to the last departure: the fifty parts one after another. -/
theorem parts : Run I c ⟨0, 0, 0, 0, 0, 0, 0, 0, 0, 0⟩ (on (k0_part51 (F := F))) (fun p => c = p.1) ⟨4, 21, 21, 21, 3, 3, 3, 3, 21, 0⟩ := by
  unfold on; rw [k0_part51_eq_skeleton]; unfold k0_part51_skel
  refine Run.bind I c (part1 I c) ?_
  rintro ⟨_, _, _, _, _, _, _⟩ ⟨rfl, rfl⟩
  refine Run.bind I c (part2 I c _ _ _ _ _) ?_
  rintro ⟨_, _, _⟩ _
  refine Run.bind I c (part3 I c _ _ _ _) ?_
  rintro _ rfl
  refine Run.bind I c (part4 I c _) ?_
  rintro _ rfl
  refine Run.bind I c (part5 I c _) ?_
  rintro ⟨_, _⟩ _
  refine Run.bind I c (part6 I c _ _ _) ?_
  rintro _ _
  refine Run.bind I c (part7 I c _ _) ?_
  rintro _ _
  refine Run.bind I c (part8 I c _) ?_
  rintro _ _
  refine Run.bind I c (part9 I c _ _) ?_
  rintro ⟨_, _⟩ _
  refine Run.bind I c (part10 I c _ _ _) ?_
  rintro _ rfl
  refine Run.bind I c (part11 I c _) ?_
  rintro _ rfl
  refine Run.bind I c (part12 I c _) ?_
  rintro ⟨_, _, _, _⟩ _
  refine Run.bind I c (part13 I c _ _ _ _ _) ?_
  rintro _ _
  refine Run.bind I c (part14 I c _) ?_
  rintro _ _
  refine Run.bind I c (part15 I c _ _) ?_
  rintro ⟨_, _, _, _⟩ _
  refine Run.bind I c (part16 I c _ _ _ _ _) ?_
  rintro ⟨_, _, _, _, _⟩ rfl
  refine Run.bind I c (part17 I c _ _ _ _ _) ?_
  rintro ⟨_, _, _⟩ ⟨rfl, rfl, rfl⟩
  refine Run.bind I c (part18 I c _) ?_
  rintro ⟨_, _, _, _, _⟩ ⟨rfl, rfl, rfl⟩
  refine Run.bind I c (part19 I c _ _ _) ?_
  rintro ⟨_, _, _⟩ ⟨rfl, rfl⟩
  refine Run.bind I c (part20 I c _ _) ?_
  rintro ⟨_, _, _⟩ ⟨rfl, rfl, rfl⟩
  refine Run.bind I c (part21 I c _) ?_
  rintro ⟨_, _, _⟩ ⟨rfl, rfl, rfl⟩
  refine Run.bind I c (part22 I c _) ?_
  rintro ⟨_, _⟩ _
  refine Run.bind I c (part23 I c _ _ _) ?_
  rintro _ _
  refine Run.bind I c (part24 I c _ _) ?_
  rintro _ rfl
  refine Run.bind I c (part25 I c _) ?_
  rintro ⟨_, _⟩ _
  refine Run.bind I c (part26 I c _ _ _) ?_
  rintro _ _
  refine Run.bind I c (part27 I c _ _) ?_
  rintro _ rfl
  refine Run.bind I c (part28 I c _) ?_
  rintro ⟨_, _⟩ _
  refine Run.bind I c (part29 I c _ _ _) ?_
  rintro _ _
  refine Run.bind I c (part30 I c _) ?_
  rintro ⟨_, _⟩ _
  refine Run.bind I c (part31 I c _ _ _) ?_
  rintro _ _
  refine Run.bind I c (part32 I c _ _) ?_
  rintro _ _
  refine Run.bind I c (part33 I c _) ?_
  rintro _ rfl
  refine Run.bind I c (part34 I c _) ?_
  rintro _ rfl
  refine Run.bind I c (part35 I c _) ?_
  rintro ⟨_, _, _⟩ _
  refine Run.bind I c (part36 I c _ _ _ _) ?_
  rintro _ _
  refine Run.bind I c (part37 I c _) ?_
  rintro ⟨_, _, _, _⟩ _
  refine Run.bind I c (part38 I c _ _ _ _ _) ?_
  rintro _ _
  refine Run.bind I c (part39 I c _ _) ?_
  rintro ⟨_, _⟩ ⟨rfl, rfl⟩
  refine Run.bind I c (part40 I c _) ?_
  rintro ⟨_, _⟩ _
  refine Run.bind I c (part41 I c _ _ _) ?_
  rintro _ _
  refine Run.bind I c (part42 I c _ _) ?_
  rintro _ _
  refine Run.bind I c (part43 I c _ _) ?_
  rintro _ _
  refine Run.bind I c (part44 I c _) ?_
  rintro _ _
  refine Run.bind I c (part45 I c) ?_
  rintro _ _
  refine Run.bind I c (part46 I c) ?_
  rintro _ _
  refine Run.bind I c (part47 I c) ?_
  rintro _ _
  refine Run.bind I c (part48 I c) ?_
  rintro _ _
  refine Run.bind I c (part49 I c) ?_
  rintro _ _
  refine Run.bind I c (part50 I c _) ?_
  rintro ⟨_, _, _⟩ _
  exact Run.ret I c rfl

/-- The whole body: the parts, the exit signals to the three partners, and their signals awaited. -/
theorem body : Run I c ⟨0, 0, 0, 0, 0, 0, 0, 0, 0, 0⟩ (on (cc0_body (F := F))) (fun _ => True) ⟨4, 21, 21, 21, 3, 3, 3, 3, 21, 4⟩ := by
  unfold on; rw [cc0_body_eq_skeleton]; unfold cc0_body_skel
  refine Run.bind I c (parts I c) ?_
  rintro ⟨_, _, _⟩ rfl
  simp only [semSignalWord, semWaitWord, Prog.lift, Prog.bind_op, Prog.bind_ret, Prog.pure_eq_ret]
  refine Run.leave I c 0 rfl (dev25_eq c) rfl ?_
  refine Run.leave I c 1 rfl (dev26_eq c) rfl ?_
  refine Run.leave I c 2 rfl (dev27_eq c) rfl ?_
  refine Run.exit I c (by decide) rfl ?_
  exact Run.ret I c trivial

end Cert.Cube
-- ==== Proof.Launch.lean ====
/-
# The exchange kernel's launch, 3: the run of `main`

The pipeline brings a device's four inputs into its staging buffers, runs the body once and writes the result back. From
any memory, for any float values: every run ends, the inputs are untouched, and device `c`'s result is `outC` of them.
-/
module

public import proofs.«01_k».proof.Proof.Split
public import proofs.«01_k».proof.Proof.Ghost
public import proofs.«01_k».proof.Proof.Body
public import proofs.«01_k».proof.Proof.Gen.KernelIdeal.Points
public import Idealize.ShloMosaic.Lib.Pipeline.CollectiveSegs

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- What the inputs hold: each device's four arrays. -/
def ins : Ins F where
  x c := (win0_0.blk (0 : Fin 1)).view.read (Elt F) ((s₀ m ρ).mem ((c : Thread nD τ).loc main_arg0))
  w c := (win0_1.blk (0 : Fin 1)).view.read (Elt F) ((s₀ m ρ).mem ((c : Thread nD τ).loc main_arg1))
  a c := (win0_2.blk (0 : Fin 1)).view.read (Elt F) ((s₀ m ρ).mem ((c : Thread nD τ).loc main_arg2))
  b c := (win0_3.blk (0 : Fin 1)).view.read (Elt F) ((s₀ m ρ).mem ((c : Thread nD τ).loc main_arg3))

/-! ## The state before and after the body -/

section Ends
variable (I : Ins F) (c : Dev nD)

/-- The scratch buffers, holding anything. -/
def Scratch : sProp 𝕄 := iprop(Sends (F := F) c ∗ Receives (F := F) c ∗ Held (F := F) accM c ∗ Held (F := F) keepM c)

/-- What device `c` starts from, buffers apart: its cells, its tokens, its credits, the levels; -/
def Start : sProp 𝕄 :=
  iprop(Ready I c ∗ ((cred (tallyAt (bar c) () 3) ∗ cred (tallyAt (fin c) () 3)) ∗ bigSep Finset.univ fun n : Fin 21 => cred (tallyAt (rcv n c) () (chan n).amt))
    ∗ levAts L lv)
/-- and what it ends with, likewise: its semaphores at zero. -/
def Ended : sProp 𝕄 :=
  iprop(unscopedSems0 c ∗ Pipeline.ownSems0 (Ix := Unit) (Name := ℕ) (U := UU) (Lvl := ℕ) (Val := Elt F) (τ := τ) osem c)

theorem mid_none {N lo hi : ℕ} (h : N ≤ lo) : (mid lo hi : Finset (Fin N)) = ∅ :=
  Finset.ext fun n => by rw [mem_mid]; exact ⟨fun hn => absurd n.isLt (by omega), fun hn => absurd hn (Finset.notMem_empty n)⟩

/-- Nothing is owed at the end. -/
theorem owed_end : Owed c 4 21 4 = 0 := by
  unfold Owed; rw [mid_none (by decide : 3 ≤ 4), mid_self]; simp only [Finset.sum_empty, add_zero]

/-- The receive slots of a device, by the partner that writes them. -/
theorem entries : bigSep Finset.univ (fun n : Fin 21 => dstAny (F := F) n c) = bigSep Finset.univ fun j : Fin 3 => entryPay (F := F) (pt j c) j := by
  rw [BI.bigSep_fiberwise Finset.univ dir, show (Finset.univ.image dir : Finset (Fin 3)) = Finset.univ from by decide]
  refine bigSep_congr fun j _ => ?_
  unfold entryPay
  rw [pt_pt]

/-- The first stage: everything unfilled, unsent and unpaid. -/
theorem first_stage {W : Waits sig Unit} : iprop(Start I c ∗ Scratch (F := F) c ∗ owes (c : Thread nD τ) (Owed c 0 0 0) W ∗ Inp I c ∗ Held (F := F) oM c)
    ⊢ St I c ⟨0, 0, 0, 0, 0, 0, 0, 0, 0, 0⟩ := by
  unfold St Start Scratch Ready Known Places Dealt Recs Ow Bar Tok Src Rcv Kp Ac Ot Dep Ex
  rw [if_pos (by decide), if_pos (by decide), if_pos (by decide), by_kind]
  simp only [mid_all, mid_self, BI.bigSep_empty, bigSep_sep']
  rw [← entries]
  iintro ⟨⟨⟨⟨HK, HR⟩, ⟨⟨HaB, HaF⟩, HaS, HaV⟩, HtB, HtF, HtS, HtV⟩, ⟨⟨HcB, HcF⟩, HcV⟩, HL⟩, ⟨HS, HV, HA, HKp⟩, HO, HI, Ho⟩
  isplitl [HK HR HL]
  · isplitl [HK]; · iexact HK
    isplitl [HR]; · iexact HR
    iexact HL
  isplitl [HO]; · iexists W; iexact HO
  isplitl [HI]; · iexact HI
  isplitl [HtB HV HaB HcB]
  · isplitl [HtB HV]
    · isplitl [HtB]; · iexact HtB
      iapply (receives_split (F := F) c); iexact HV
    isplitl [HaB]; · iexact HaB
    iexact HcB
  isplitl [HtS HtV]
  · isplitl
    · isplitl [HtS]; · iexact HtS
      iexact HtV
    iempintro
  isplitl [HS]
  · isplitl
    · iapply (sends_split (F := F) c); iexact HS
    iempintro
  isplitl [HaV HcV]
  · isplitl
    · isplitl [HaV]; · iexact HaV
      iexact HcV
    isplitl <;> iempintro
  isplitl [HKp]
  · isplitl
    · iapply (cols_split (F := F) keepM (View.set_whole _) c); iexact HKp
    iempintro
  isplitl [HA]
  · isplitl
    · iapply (cols_split (F := F) accM (View.set_whole _) c); iexact HA
    isplitl <;> iempintro
  isplitl [Ho]
  · isplitl
    · iapply (cols_split (F := F) oM (View.set_whole _) c); iexact Ho
    iempintro
  isplitl [HaS]
  · isplitl; · iexact HaS
    isplitl
    · iempintro
    isplitl <;> iempintro
  isplitl [HtF]; · iexact HtF
  isplitl [HaF]; · iexact HaF
  iexact HcF

/-- The last stage: everything sent, received and stored, every semaphore at zero. -/
theorem last_stage : St I c ⟨4, 21, 21, 21, 3, 3, 3, 3, 21, 4⟩
    ⊢ iprop((Scratch (F := F) c ∗ Ended (F := F) c) ∗ (∃ W, owes (c : Thread nD τ) 0 W) ∗ Inp I c ∗ (((c : Thread nD τ).loc cc0_stg4_0) ↦{fullShare} outC I c)) := by
  unfold St Ended Scratch Ow Bar Tok Src Rcv Kp Ac Ot Dep Ex
  rw [if_neg (by decide), if_neg (by decide), if_neg (by decide), own_zero, other_zero, owed_end]
  simp only [mid_all, mid_self, BI.bigSep_empty, bigSep_sep']
  iintro ⟨-, HO, HI, HzB, -, -, ⟨-, HzV, HV⟩, ⟨-, HKp⟩, ⟨-, -, HA⟩, ⟨-, Ho⟩, ⟨-, -, HzS, HS⟩, HzF⟩
  isplitl [HzB HzV HV HKp HA HzS HS HzF]
  · isplitl [HV HKp HA HS]
    · isplitl [HS]
      · iapply (sends_join (F := F) c); iexact HS
      isplitl [HV]
      · iapply (receives_join (F := F) c)
        iapply (show (bigSep Finset.univ fun n : Fin 21 => dstHas (F := F) n c (sent I (peer n c) n)) ⊢ bigSep Finset.univ fun n : Fin 21 => dstAny (F := F) n c from bigSep_mono fun n _ => piece_any (F := F) (chan n).dst (chan n).r c (sent I (peer n c) n)); iexact HV
      isplitl [HA]
      · iapply (cols_join (F := F) accM (View.set_whole _) c (fun _ => Scalar.ofBits .f32 0))
        iapply (show (bigSep Finset.univ fun g : Fin 3 => Piece (F := F) accM (grp g).cols c (keep16 I (grp g) c)) ⊢ bigSep Finset.univ fun g : Fin 3 => Any (F := F) accM (grp g).cols c from bigSep_mono fun g _ => piece_any (F := F) accM (grp g).cols c (keep16 I (grp g) c)); iexact HA
      iapply (cols_join (F := F) keepM (View.set_whole _) c (fun _ => Scalar.ofBits .f32 0))
      iapply (show (bigSep Finset.univ fun g : Fin 3 => Piece (F := F) keepM (grp g).cols c (keep8 I (grp g) 2 c)) ⊢ bigSep Finset.univ fun g : Fin 3 => Any (F := F) keepM (grp g).cols c from bigSep_mono fun g _ => piece_any (F := F) keepM (grp g).cols c (keep8 I (grp g) 2 c)); iexact HKp
    isplitl [HzB]; · iexact HzB
    isplitl [HzF]; · iexact HzF
    isplitl [HzS]; · iexact HzS
    iexact HzV
  isplitl [HO]; · iexact HO
  isplitl [HI]; · iexact HI
  iapply (out_join I c); iexact Ho

end Ends

/-! ## The pipeline's data -/

/-- The arrays as launched; after the body the inputs' staging buffers unchanged and the result's holding `outC`; around
    it the state at the two ends; owed at first what the protocol says, at last nothing. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m ρ).x c
    | ⟨1, _⟩ => (ins m ρ).w c
    | ⟨2, _⟩ => (ins m ρ).a c
    | ⟨3, _⟩ => (ins m ρ).b c
    | ⟨4, _⟩ => outC (ins m ρ) c
  Φ t := match t with
    | ⟨0, _⟩ => iprop(Start (ins m ρ) c ∗ Scratch (F := F) c)
    | ⟨_ + 1, _⟩ => iprop(Scratch (F := F) c ∗ Ended (F := F) c)
  q _ := fullShare
  owed t := match t with
    | ⟨0, _⟩ => Owed c 0 0 0
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Staging buffer `b` of device `c` holding `X`. -/
abbrev Staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def Before (c : Dev nD) : sProp 𝕄 :=
  iprop((Start (ins m ρ) c ∗ Scratch (F := F) c) ∗ (dats m ρ 0 c).owesAt () t0_0.castSucc
    ∗ (∃ d, Staged c cc0_stg0_0 ((dats m ρ 0 c).before (0 : Fin 5) t0_0 d)) ∗ (∃ d, Staged c cc0_stg1_0 ((dats m ρ 0 c).before (1 : Fin 5) t0_0 d))
    ∗ (∃ d, Staged c cc0_stg2_0 ((dats m ρ 0 c).before (2 : Fin 5) t0_0 d)) ∗ (∃ d, Staged c cc0_stg3_0 ((dats m ρ 0 c).before (3 : Fin 5) t0_0 d))
    ∗ (∃ d, Staged c cc0_stg4_0 ((dats m ρ 0 c).before (4 : Fin 5) t0_0 d)))
def After (c : Dev nD) : sProp 𝕄 :=
  iprop((Scratch (F := F) c ∗ Ended (F := F) c) ∗ (dats m ρ 0 c).owesAt () t0_0.succ
    ∗ Staged c cc0_stg0_0 ((ins m ρ).x c) ∗ Staged c cc0_stg1_0 ((ins m ρ).w c) ∗ Staged c cc0_stg2_0 ((ins m ρ).a c)
    ∗ Staged c cc0_stg3_0 ((ins m ρ).b c) ∗ Staged c cc0_stg4_0 (outC (ins m ρ) c))

/-- The body, from what the pipeline gives it to what it wants back. -/
theorem body_runs (c : Dev nD) : Before m ρ c ⊢ wp frame (wpE (defs₀ (F := F)) 𝒱₀ (c : Thread nD τ) none) Set.univ (on (cc0_body (F := F))) (fun _ => After m ρ c) := by
  unfold Before
  iintro ⟨⟨HSt, HScr⟩, HO, ⟨%d0, %g0, %hg0, Hx⟩, ⟨%d1, %g1, %hg1, Hw⟩, ⟨%d2, %g2, %hg2, Ha⟩, ⟨%d3, %g3, %hg3, Hb⟩, ⟨%d4, %g4, %hg4, Ho⟩⟩
  have h0 : g0 = (ins m ρ).x c := by rw [hg0]; unfold Dat.before; rw [if_pos (fetch0_0 t0_0)]; rfl
  have h1 : g1 = (ins m ρ).w c := by rw [hg1]; unfold Dat.before; rw [if_pos (fetch0_1 t0_0)]; rfl
  have h2 : g2 = (ins m ρ).a c := by rw [hg2]; unfold Dat.before; rw [if_pos (fetch0_2 t0_0)]; rfl
  have h3 : g3 = (ins m ρ).b c := by rw [hg3]; unfold Dat.before; rw [if_pos (fetch0_3 t0_0)]; rfl
  subst h0 h1 h2 h3
  unfold Dat.owesAt Pipeline.owesWithin
  icases HO with ⟨%W, %hW, HO⟩
  rw [show (dats m ρ 0 c).owed t0_0.castSucc = Owed c 0 0 0 from rfl]
  iapply (body (ins m ρ) c (fun _ => After m ρ c))
  isplitl
  · iapply (first_stage (ins m ρ) c (W := W))
    isplitl [HSt]; · iexact HSt
    isplitl [HScr]; · iexact HScr
    isplitl [HO]; · iexact HO
    isplitl [Hx Hw Ha Hb]
    · unfold Inp
      isplitl [Hx]; · iexact Hx
      isplitl [Hw]; · iexact Hw
      isplitl [Ha]; · iexact Ha
      iexact Hb
    · unfold Held
      iexists g4; iexact Ho
  iintro %u - H
  ihave H := (last_stage (ins m ρ) c) $$ H
  unfold After Inp Dat.owesAt Pipeline.owesWithin
  rw [show (dats m ρ 0 c).owed t0_0.succ = 0 from rfl]
  icases H with ⟨HE, ⟨%W', HO⟩, ⟨Hx, Hw, Ha, Hb⟩, Ho⟩
  isplitl [HE]; · iexact HE
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Ha]
  · iexists _; isplitr; · (ipureintro; rfl)
    iexact Ha
  isplitl [Hb]
  · iexists _; isplitr; · (ipureintro; rfl)
    iexact Hb
  iexists _; isplitr; · (ipureintro; rfl)
  iexact Ho

set_option maxRecDepth 20000 in
theorem body_obligation (c : Dev nD) : BodyObligation (dats (F := F) m ρ 0 c) (defs₀ (F := F)) 𝒱₀ () Set.univ := fun t => by
  rw [fin_N0 t]
  rw [show (∀ Φ : Fin cfg0.W → sProp 𝕄, bigSep Finset.univ Φ = iprop(Φ (0 : Fin 5) ∗ Φ (1 : Fin 5) ∗ Φ (2 : Fin 5) ∗ Φ (3 : Fin 5) ∗ Φ (4 : Fin 5))) from bigSep_W0,
    show (∀ Φ : Fin cfg0.W → sProp 𝕄, bigSep Finset.univ Φ = iprop(Φ (0 : Fin 5) ∗ Φ (1 : Fin 5) ∗ Φ (2 : Fin 5) ∗ Φ (3 : Fin 5) ∗ Φ (4 : Fin 5))) from bigSep_W0]
  simp only [owns_whole]
  exact body_runs m ρ c

/-! ## The launch -/

theorem share_eq (c : Dev nD) (w : Fin cfg0.W) : (dats m ρ 0 c).share w = fullShare := by unfold Dat.share; split <;> rfl

/-- The ghost state at launch. -/
def u₀ : UU := (initOf (Pipeline.cells cfgs cellOf_inj) (Pipeline.launchToks cfgs cellOf_inj), initOf allCells allTokens)

theorem start_intro (c : Dev nD) :
    iprop(Pipeline.unscopedRestP Pipeline.Prefetch.none cfg0.spec c (fun b => m ((c : Thread nD τ).loc b)) ∗ levAts L lv
        ∗ Pipeline.launchCred (fun d => Owed d 0 0 0) c ∗ prngReg c (ρ c) ∗ Ready (ins m ρ) c)
      ⊢ |={Set.univ}=> iprop(Start (ins m ρ) c ∗ emp) := by
  iintro ⟨-, Hlev, Hcr, -, HG⟩
  ihave Hc := (creds (F := F) c) $$ Hcr
  imodintro
  unfold Start
  isplitl
  · isplitl [HG]; · iexact HG
    isplitl [Hc]; · iexact Hc
    iexact Hlev
  · iempintro

/-- The scratch buffers are the region's own, but for the staging buffers. -/
theorem scratch_eq (c : Dev nD) : (Pipeline.scopedRest (Ix := Unit) (Name := ℕ) (U := UU) (Lvl := ℕ) (Val := Elt F) cfg0.spec c : sProp 𝕄) ⊢ Scratch (F := F) c := by
  rw [scopedRest0_eq]
  unfold Scratch Sends Receives Held
  iintro ⟨H0, H1, H2, H3, H4, H5, H6, H7, H8, H9, H10, H11, H12, H13⟩
  isplitl [H0 H1 H2 H6 H7 H8]
  · isplitl [H0]; · iexact H0
    isplitl [H1]; · iexact H1
    isplitl [H2]; · iexact H2
    isplitl [H6]; · iexact H6
    isplitl [H7]; · iexact H7
    iexact H8
  isplitl [H3 H4 H5 H9 H10 H11]
  · isplitl [H3]; · iexact H3
    isplitl [H4]; · iexact H4
    isplitl [H5]; · iexact H5
    isplitl [H9]; · iexact H9
    isplitl [H10]; · iexact H10
    iexact H11
  isplitl [H12]; · iexact H12
  iexact H13
theorem scratch_back (c : Dev nD) : Scratch (F := F) c ⊢ (Pipeline.scopedRest (Ix := Unit) (Name := ℕ) (U := UU) (Lvl := ℕ) (Val := Elt F) cfg0.spec c : sProp 𝕄) := by
  rw [scopedRest0_eq]
  unfold Scratch Sends Receives Held
  iintro ⟨⟨H0, H1, H2, H6, H7, H8⟩, ⟨H3, H4, H5, H9, H10, H11⟩, H12, H13⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem phi_first (c : Dev nD) :
    iprop(Start (ins m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(Start (ins m ρ) c ∗ Scratch (F := F) c) from rfl]
  iintro ⟨Hs, -, Hr⟩
  isplitl [Hs]; · iexact Hs
  iapply (scratch_eq (F := F) c); iexact Hr

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(Scratch (F := F) c ∗ Ended (F := F) c) from rfl]
  unfold Ended
  iintro ⟨Hr, HzB, Hz⟩
  isplitl [HzB]; · iexact HzB
  isplitl [Hz]; · iexact Hz
  iapply (scratch_back (F := F) c); iexact Hr

/-- No staging copy's semaphore is a cell's. -/
theorem stage_level (c : Dev nD) (w : Fin cfg0.W) (s : Fin (cfg0.win w).nbuf) : lv ((c : Thread nD τ), .dma ((cfg0.win w).sem s)) () = 0 := by
  unfold lv
  rw [kind_none (show ∀ k, csem k ≠ .dma ((cfg0.win w).sem s) from by revert w s; decide +kernel)]; rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 0 0 0 (stage_level c w s) (fun _ => by decide) (fun n _ => by dsimp only [clev]; split <;> [decide; (split <;> decide)]) (fun _ => by decide)
    · show (levAts L lv : sProp 𝕄) ⊢ MayWait (c : Thread nD τ) _ () 0
      rw [MayWait_zero]; iintro -; iempintro

/-! ## The run -/

/-- What array `w` of device `c` ends up holding. -/
def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of eight devices, for any float values, from any memory with zero counters: every weakly fair execution of
    `main` ends, with every array at its final contents and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => Owed d 0 0 0) (howed₀ := fun _ => rfl) (howedN := fun _ => rfl)
    (L := L) (lv := lv) (hL := L_of_ne) (hwaits := waits m ρ)
    (G := Given (ins m ρ)) (G' := Ready (ins m ρ)) (u₀ := u₀)
    (hu₀ := by
      unfold u₀
      iintro Hu
      ihave H := (ownU_pair _ _) $$ Hu
      icases H with ⟨HP, HX⟩
      imod (fund (ins m ρ)) $$ HX with HG
      imodintro
      isplitl [HP] <;> iassumption)
    (hglob := glob (ins m ρ))
    (hA := fun _ _ => rfl) (hpf := fun _ k => k.elim0)
    (X := Start (ins m ρ)) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The four inputs hold what they held. -/
theorem final_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.Cube
-- ==== Proof.Frames.lean ====
/-
# The frames

The kernel, read with any float values, runs to its end on the mesh of eight devices, leaves its four inputs as they were
and every counter at zero. The kernel as printed and its reading over the extended reals have the same text, so both
are instances of the one run. The reference's run gives its own frame.
-/
module

public import proofs.«01_k».proof.Defs
public import proofs.«01_k».proof.Proof.Gen.Kernel
public import proofs.«01_k».proof.Proof.Launch
public import proofs.«01_k».proof.Proof.Gen.ReferenceIdeal.Run

@[expose] public section

noncomputable section

namespace Cert.Cube

open Cert.KernelIdeal Cert.KernelIdeal.Gen
open Idealize.ShloMosaic Idealize.SL.Sem
open Idealize.ShloMosaic.TcCoe

variable {F : FTy → Type} [FloatOps F]

/-- At the end of the run the four inputs hold what they held. -/
theorem kept (m : (ℓ : Loc nD τ sig) → Buf (Elt F) ℓ) (ρ : Dev nD → PrngReg) (r : PUnit × MemSt nD τ sig (Elt F)) (h : Final m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨(h c 0).trans (final_in m ρ c 0 rfl), (h c 1).trans (final_in m ρ c 1 rfl),
    (h c 2).trans (final_in m ρ c 2 rfl), (h c 3).trans (final_in m ρ c 3 rfl)⟩

/-! ## The printed kernel is its reading -/

set_option maxHeartbeats 4000000 in
/-- The two programs' kernel functions have the same text, -/
theorem same_kernels : Cert.KernelIdeal.defs₀ (F := F) = Cert.Kernel.defs₀ (F := F) := by
  unfold Cert.KernelIdeal.defs₀ Cert.Kernel.defs₀
  refine congrArg Defs.onTc ?_
  funext l x
  match l, x with
  | 0, (t, s) => rfl

/-- and so do all their functions. -/
theorem same_defs : Cert.KernelIdeal.defs (F := F) = Cert.Kernel.defs (F := F) :=
  congrArg (Pipeline.defs (Cert.KernelIdeal.pcfgs (F := F))) (same_kernels (F := F))

/-! ## The frames -/

/-- The kernel runs, keeps its inputs and ends with every counter at zero; -/
theorem frame_kernel : Cert.quiescent_Kernel := fun m ρ _ => by
  have h := (θ_run Cert.KernelIdeal.defs _ _).mono (fun r h => (⟨kept (F := Bits) m ρ r h.1, h.2⟩ : (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0)) (run_main (F := Bits) m ρ)
  rw [same_defs] at h
  exact h

/-- so does its reading over the extended reals; -/
theorem frame_ideal : Cert.quiescent_KernelIdeal := fun m ρ _ =>
  (θ_run Cert.KernelIdeal.defs _ _).mono (fun r h => ⟨kept (F := Ideal) m ρ r h.1, h.2⟩) (run_main (F := Ideal) m ρ)

/-- and so does the reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Cube
-- ==== Proof.Value.lean ====
/-
# The exchange kernel's values, 2: the result is the reference's

Device `c`'s 512 rows of the reference's result are the activation of the scaled product of rows `512 c …` of the whole `x`
with the whole weights. The contracted axis is cut over the devices, so that product is the sum over the devices of the
product of the rows' part on the device with the device's weights, which is what the kernel's groups add up.
-/
module

public import proofs.«01_k».proof.Defs
public import proofs.«01_k».proof.Proof.Sums
public import proofs.«01_k».proof.Proof.Frames
public import Idealize.ShloMosaic.Lib.StackMember
public import Idealize.ShloMosaic.Lib.Layout
public import Idealize.ShloMosaic.Lib.Pipeline.ValueKit.Geometry

@[expose] public section

noncomputable section

namespace Cert.Cube

open Cert.KernelIdeal Cert.KernelIdeal.Gen
open Idealize.ShloMosaic Idealize.ShloMosaic.ValueIdx Idealize.SL.Sem
open Idealize.ShloMosaic.TcCoe
open scoped BigOperators

/-! ## What the run's arrays hold -/

section Arrays
variable {F : FTy → Type} [FloatOps F] (m : (ℓ : Loc nD τ sig) → Buf (Elt F) ℓ) (ρ : Dev nD → PrngReg)

/-- The staged inputs are the argument arrays. -/
theorem ins_x (c : Dev nD) : (ins m ρ).x c = m ((c : Thread nD τ).loc main_arg0) := by
  have hr := fun f => Memref.read_access_unit_zero (Elt F) main_arg0 (off := fun a => win0_0.index (0 : Fin 1) a * main_arg0.ty.shape.size a)
    (funext fun a => by fin_cases a <;> decide) (fun a => by fin_cases a <;> decide) f
  show (win0_0.blk (0 : Fin 1)).view.read (Elt F) (m ((c : Thread nD τ).loc main_arg0)) = _
  exact hr (m ((c : Thread nD τ).loc main_arg0))
theorem ins_w (c : Dev nD) : (ins m ρ).w c = m ((c : Thread nD τ).loc main_arg1) := by
  have hr := fun f => Memref.read_access_unit_zero (Elt F) main_arg1 (off := fun a => win0_1.index (0 : Fin 1) a * main_arg1.ty.shape.size a)
    (funext fun a => by fin_cases a <;> decide) (fun a => by fin_cases a <;> decide) f
  show (win0_1.blk (0 : Fin 1)).view.read (Elt F) (m ((c : Thread nD τ).loc main_arg1)) = _
  exact hr (m ((c : Thread nD τ).loc main_arg1))
theorem ins_a (c : Dev nD) : (ins m ρ).a c = m ((c : Thread nD τ).loc main_arg2) := by
  have hr := fun f => Memref.read_access_unit_zero (Elt F) main_arg2 (off := fun a => win0_2.index (0 : Fin 1) a * main_arg2.ty.shape.size a)
    (funext fun a => by fin_cases a <;> decide) (fun a => by fin_cases a <;> decide) f
  show (win0_2.blk (0 : Fin 1)).view.read (Elt F) (m ((c : Thread nD τ).loc main_arg2)) = _
  exact hr (m ((c : Thread nD τ).loc main_arg2))
theorem ins_b (c : Dev nD) : (ins m ρ).b c = m ((c : Thread nD τ).loc main_arg3) := by
  have hr := fun f => Memref.read_access_unit_zero (Elt F) main_arg3 (off := fun a => win0_3.index (0 : Fin 1) a * main_arg3.ty.shape.size a)
    (funext fun a => by fin_cases a <;> decide) (fun a => by fin_cases a <;> decide) f
  show (win0_3.blk (0 : Fin 1)).view.read (Elt F) (m ((c : Thread nD τ).loc main_arg3)) = _
  exact hr (m ((c : Thread nD τ).loc main_arg3))

/-- The result array ends up holding the body's result. -/
theorem final_result (c : Dev nD) : finalA m ρ c 4 = outC (ins m ρ) c := by
  have hr := fun f => Memref.read_access_unit_zero (Elt F) main_v1 (off := fun a => (win0_4.index (0 : Fin 1)) a * main_v1.ty.shape.size a)
    (funext fun a => by fin_cases a <;> decide) (fun a => by fin_cases a <;> decide) f
  refine (hr (finalA m ρ c 4)).symm.trans ?_
  show ((cfg0.win (4 : Fin 5)).blk (0 : Fin 1)).view.read (Elt F) ((dats m ρ 0 c).arrAt (4 : Fin 5) cfg0.N) = _
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

end Arrays

/-! ## The result at an index -/

section
variable (I : Ins Ideal)

/-- The body's result in a group's columns, -/
theorem out_at (g : Fin 3) (c : Dev nD) (i : Fin 512) (j : Fin (grp g).w) :
    (outC I c : FVec Ideal S512x2048 .f32) (ix2 i (col g j)) = gate (ofZ (total I c i (col g j)) * scl I c) := by
  rw [← res_at, ← out_read]
  refine congrArg (outC I c) (funext fun a => Fin.ext ?_)
  match a with
  | 0 => show i.val = 0 + 1 * i.val; omega
  | 1 => show (grp g).o + j.val = (grp g).o + 1 * j.val; omega

/-- every column is some group's, -/
theorem col_of (j : Fin 2048) : ∃ g, ∃ j' : Fin (grp g).w, col g j' = j := by
  have hj := j.isLt
  by_cases h0 : j.val < 640
  · exact ⟨0, ⟨j.val, h0⟩, Fin.ext (show 0 + j.val = j.val by omega)⟩
  by_cases h1 : j.val < 1280
  · exact ⟨1, ⟨j.val - 640, show j.val - 640 < 640 by omega⟩, Fin.ext (show 640 + (j.val - 640) = j.val by omega)⟩
  · exact ⟨2, ⟨j.val - 1280, show j.val - 1280 < 768 by omega⟩, Fin.ext (show 1280 + (j.val - 1280) = j.val by omega)⟩

/-- and so the body's result anywhere. -/
theorem outC_at (c : Dev nD) (i : Fin 512) (j : Fin 2048) :
    (outC I c : FVec Ideal S512x2048 .f32) (ix2 i j) = gate (ofZ (total I c i j) * scl I c) := by
  obtain ⟨g, j', rfl⟩ := col_of j
  exact out_at I g c i j'

end

/-! ## The reference at an index -/

/-- The reference's product of the whole arrays. -/
def whole (X : IVec ⟨2, ![4096, 4096]⟩ 8) (W : IVec ⟨2, ![4096, 2048]⟩ 8) (r : Fin 4096) (j : Fin 2048) : ℤ :=
  ∑ k : Fin 4096, (X (ix2 r k)).toInt * (W (ix2 k j)).toInt

/-- The reference's result. -/
def refOut (X : IVec ⟨2, ![4096, 4096]⟩ 8) (W : IVec ⟨2, ![4096, 2048]⟩ 8) (a b : FVec Ideal S1 .f32) :
    FVec Ideal ⟨2, ![4096, 2048]⟩ .f32 :=
  fun x => gate (ofZ (whole X W (x 0) (x 1)) * (a (ix1 0) * b (ix1 0)))

theorem ext_val (b : BitVec 8) : (b.signExtend 32).toInt = b.toInt := BitVec.toInt_signExtend_of_le (by decide)

/-- There is one index of a one-element array. -/
theorem one_idx (x y : S1.Idx) : x = y := funext fun a => Fin.ext (by
  have hx : (x a).val < 1 := by have := (x a).isLt; match a with | 0 => exact this
  have hy : (y a).val < 1 := by have := (y a).isLt; match a with | 0 => exact this
  omega)

/-- The reference's floating-point product of the converted arrays is the integer product. -/
theorem ref_dot (X : IVec ⟨2, ![4096, 4096]⟩ 8) (W : IVec ⟨2, ![4096, 2048]⟩ 8) (r : Fin 4096) (j : Fin 2048) :
    Host.dotGeneral (F := Ideal) (DotDims.plain 4096 4096 2048) none
      (sitofp .f32 (extsi 32 X (by decide))) (sitofp .f32 (extsi 32 W (by decide))) (ix2 r j) = ofZ (whole X W r j) := by
  rw [StackMember.dotGeneral_plain_apply]
  unfold whole
  rw [ofZ_sum]
  refine Finset.sum_congr rfl fun k _ => ?_
  rw [ofZ_mul]
  show ofZ ((X (ix2 r k)).signExtend 32).toInt * ofZ ((W (ix2 k j)).signExtend 32).toInt = _
  rw [ext_val, ext_val]

/-- The reference's activation of a scaled array, at an index. -/
theorem ref_gate (D S : FVec Ideal ⟨2, ![4096, 2048]⟩ .f32) (x : (⟨2, ![4096, 2048]⟩ : Shape).Idx) :
    Host.divf (mulf D S) (addf
      (broadcastInDim Cert.ReferenceIdeal.S4096x2048 ![] Cert.ReferenceIdeal.Gen.bcast_S_S4096x2048 (constant Cert.ReferenceIdeal.S_ .f32 0x3F800000#32))
      (Host.exp (Host.negf (minimumf
        (broadcastInDim Cert.ReferenceIdeal.S4096x2048 ![] Cert.ReferenceIdeal.Gen.bcast_S_S4096x2048 (id (constant Cert.ReferenceIdeal.S_ .f32 0x42700000#32)))
        (maximumf
          (broadcastInDim Cert.ReferenceIdeal.S4096x2048 ![] Cert.ReferenceIdeal.Gen.bcast_S_S4096x2048 (id (constant Cert.ReferenceIdeal.S_ .f32 0xC2700000#32)))
          (mulf D S)))))) x = gate (D x * S x) := by
  unfold gate clip
  rw [← Ideal.ofBits_one_f32]
  rfl

/-! ## The two agree -/

section
variable (X : IVec ⟨2, ![4096, 4096]⟩ 8) (W : IVec ⟨2, ![4096, 2048]⟩ 8)

/-- The devices' products add up to the whole one, -/
theorem total_whole (I : Ins Ideal) (hx : ∀ c, I.x c = Layout.block ⟨2, ![4096, 512]⟩ ⟨2, ![4096, 4096]⟩ 1 8 c X)
    (hw : ∀ c, I.w c = Layout.block ⟨2, ![512, 2048]⟩ ⟨2, ![4096, 2048]⟩ 0 8 c W) (c : Dev nD) (i : Fin 512) (j : Fin 2048) :
    total I c i j = whole X W ⟨c.val * 512 + i.val, row_lt c i⟩ j := by
  unfold total part xs ws whole
  show _ = ∑ k : Fin (8 * 512), _
  rw [← (finProdFinEquiv (m := 8) (n := 512)).sum_comp, Fintype.sum_prod_type]
  refine Finset.sum_congr rfl fun p _ => Finset.sum_congr rfl fun k _ => ?_
  rw [hx, hw]
  refine congrArg₂ (fun a b : BitVec 8 => a.toInt * b.toInt)
    (congrArg X (funext fun a => Fin.ext ?_)) (congrArg W (funext fun a => Fin.ext ?_))
  · match a with
    | 0 => rfl
    | 1 => show p.val * 512 + k.val = k.val + 512 * p.val; omega
  · match a with
    | 0 => show p.val * 512 + k.val = k.val + 512 * p.val; omega
    | 1 => rfl

/-- so each device's result is its rows of the reference's. -/
theorem outC_ref (I : Ins Ideal) (a b : FVec Ideal S1 .f32)
    (hx : ∀ c, I.x c = Layout.block ⟨2, ![4096, 512]⟩ ⟨2, ![4096, 4096]⟩ 1 8 c X)
    (hw : ∀ c, I.w c = Layout.block ⟨2, ![512, 2048]⟩ ⟨2, ![4096, 2048]⟩ 0 8 c W)
    (ha : ∀ c, I.a c = a) (hb : ∀ c, I.b c = b) (c : Dev nD) :
    outC I c = Layout.block ⟨2, ![512, 2048]⟩ ⟨2, ![4096, 2048]⟩ 0 8 c (refOut X W a b) := by
  have hs : scl I c = a (ix1 0) * b (ix1 0) := by
    unfold scl
    rw [ha, hb]
    exact congrArg₂ (fun u v : EReal => u * v) (congrArg a (one_idx _ _)) (congrArg b (one_idx _ _))
  have hv (i : Fin 512) (j : Fin 2048) : (outC I c : FVec Ideal S512x2048 .f32) (ix2 i j) =
      refOut X W a b (ix2 ⟨c.val * 512 + i.val, row_lt c i⟩ j) := by
    rw [outC_at, total_whole X W I hx hw, hs]
    rfl
  refine funext fun x => (congrArg (outC I c) (eq_ix2 x)).trans ((hv (x 0) (x 1)).trans ?_)
  refine congrArg (refOut X W a b) (funext fun a => Fin.ext ?_)
  match a with
  | 0 => rfl
  | 1 => rfl

end

/-- The kernel over the extended reals computes the reference. -/
theorem algebraic : Cert.algebraic_KernelIdeal_ReferenceIdeal := by
  intro m ρ m' ρ' _ hagree
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨((h.1 c 4).trans (final_result m ρ c)).trans ?_, kept (F := Ideal) m ρ r h.1 c⟩)
      (run_main (F := Ideal) m ρ)
    exact outC_ref _ _ (ins m ρ) _ _ (fun c => (ins_x m ρ c).trans (hagree c).1) (fun c => (ins_w m ρ c).trans (hagree c).2.1)
      (fun c => (ins_a m ρ c).trans (hagree c).2.2.1) (fun c => (ins_b m ρ c).trans (hagree c).2.2.2) c
  · refine (θ_run Cert.ReferenceIdeal.defs _ _).mono (fun r h => ⟨(h 0).1.trans ?_, (h 0).2⟩) (Cert.ReferenceIdeal.Value.run (F := Ideal) m' ρ')
    funext x
    refine (ref_gate _ _ x).trans (congrArg gate (congrArg₂ (fun u v : EReal => u * v) ?_ ?_))
    · exact (congrArg _ (eq_ix2 x)).trans (ref_dot _ _ (x 0) (x 1))
    · exact congrArg₂ (fun u v : EReal => u * v) (congrArg _ (one_idx _ _)) (congrArg _ (one_idx _ _))

end Cert.Cube
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Cube.frame_kernel, Cert.Cube.frame_ideal, Cert.Cube.frame_reference, trivial, Cert.Cube.algebraic⟩

end Cert.Proof

end
